-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unique_max [hPre_unique_max : Cert.Pre_unique_max.Facts] (m : (ℓ : Loc Cert.KernelIdeal.nD Cert.KernelIdeal.τ Cert.KernelIdeal.sig) → Buf (Elt Ideal) ℓ) : Prop :=
  ∀ c : Dev Cert.KernelIdeal.nD,
    (Cert.Pre_unique_max.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unique_max [hPre_unique_max : Cert.Pre_unique_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unique_max.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unique_max [hKernelIdeal : Cert.KernelIdeal.Facts] [hPre_unique_max : Cert.Pre_unique_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unique_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unique_max [hReferenceIdeal : Cert.ReferenceIdeal.Facts] [hPre_unique_max : Cert.Pre_unique_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unique_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "scale" .f32 0xBC579436#32 ((-1 / 76 : ℝ) : EReal)

def algebraic_KernelIdeal_ReferenceIdeal_pre_unique_max [hKernelIdeal : Cert.KernelIdeal.Facts] [hReferenceIdeal : Cert.ReferenceIdeal.Facts] [hPre_unique_max : Cert.Pre_unique_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unique_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unique_max : Cert.Pre_unique_max.Facts),
    quiescent_Kernel (hKernel := hKernel)
    ∧ quiescent_KernelIdeal (hKernelIdeal := hKernelIdeal)
    ∧ quiescent_KernelIdeal_pre_unique_max (hKernelIdeal := hKernelIdeal) (hPre_unique_max := hPre_unique_max)
    ∧ quiescent_ReferenceIdeal (hReferenceIdeal := hReferenceIdeal)
    ∧ quiescent_ReferenceIdeal_pre_unique_max (hReferenceIdeal := hReferenceIdeal) (hPre_unique_max := hPre_unique_max)
    ∧ preserves_Kernel_KernelIdeal
    ∧ algebraic_KernelIdeal_ReferenceIdeal_pre_unique_max (hKernelIdeal := hKernelIdeal) (hReferenceIdeal := hReferenceIdeal) (hPre_unique_max := hPre_unique_max)
-- ==== Pre_unique_max.lean ====
abbrev S4x19x512x1024 : Shape := ⟨4, ![4, 19, 512, 1024]⟩
abbrev S_ : Shape := ⟨0, ![]⟩
abbrev S4x512x1024 : Shape := ⟨3, ![4, 512, 1024]⟩
abbrev S4x1x512x1024 : Shape := ⟨4, ![4, 1, 512, 1024]⟩

class Facts : Prop where
  reducesTo_S4x19x512x1024_S4x512x1024_d1 : S4x19x512x1024.ReducesTo [1] S4x512x1024
  h_S_ : 0 < S_.numel
  bcast_S4x512x1024_S4x1x512x1024_0_2_3 : S4x512x1024.BroadcastsInDim S4x1x512x1024 (![0, 2, 3] : Fin 3 → Fin S4x1x512x1024.rank)
  bcast_S4x1x512x1024_S4x19x512x1024_0_1_2_3 : S4x1x512x1024.BroadcastsInDim S4x19x512x1024 (![0, 1, 2, 3] : Fin 4 → Fin S4x19x512x1024.rank)
  natLt_1_32 : 1 < 32
  bcast_S_S4x512x1024 : S_.BroadcastsInDim S4x512x1024 (![] : Fin 0 → Fin S4x512x1024.rank)
  reducesTo_S4x512x1024_S_d0_1_2 : S4x512x1024.ReducesTo [0, 1, 2] S_
  bcast_S_S4x1x512x1024 : S_.BroadcastsInDim S4x1x512x1024 (![] : Fin 0 → Fin S4x1x512x1024.rank)
  reducesTo_S4x1x512x1024_S_d0_1_2_3 : S4x1x512x1024.ReducesTo [0, 1, 2, 3] S_
  bcast_S_S4x19x512x1024 : S_.BroadcastsInDim S4x19x512x1024 (![] : Fin 0 → Fin S4x19x512x1024.rank)
  reducesTo_S4x19x512x1024_S_d0_1_2_3 : S4x19x512x1024.ReducesTo [0, 1, 2, 3] S_

variable [Facts]

def fn_part1 {F : FTy → Type} [FloatOps F] (main_v13 : IVec S_ 1) (main_v16 : IVec S4x19x512x1024 1) : IVec S_ 1 :=
  let main_c_5 : IVec S_ 1 := constantI S_ 1 1#1
  let main_v17 : IVec S_ 1 := (fun x v => Host.reduce IntOp.andi x v reducesTo_S4x19x512x1024_S_d0_1_2_3 h_S_) main_v16 main_c_5
  let main_v18 : IVec S_ 1 := andi main_v13 main_v17
  main_v18

def fn {F : FTy → Type} [FloatOps F] (main_arg0 : FVec F S4x19x512x1024 .f32) : IVec S_ 1 :=
  let main_cst : FVec F S_ .f32 := constant S_ .f32 0xFF800000#32
  let main_v0 : FVec F S4x512x1024 .f32 := (fun x v => Host.reduce FloatOps.maximumf x v reducesTo_S4x19x512x1024_S4x512x1024_d1 h_S_) main_arg0 main_cst
  let main_v1 : FVec F S4x1x512x1024 .f32 := broadcastInDim S4x1x512x1024 ![0, 2, 3] bcast_S4x512x1024_S4x1x512x1024_0_2_3 main_v0
  let main_v2 : FVec F S4x19x512x1024 .f32 := broadcastInDim S4x19x512x1024 ![0, 1, 2, 3] bcast_S4x1x512x1024_S4x19x512x1024_0_1_2_3 main_v1
  let main_v3 : IVec S4x19x512x1024 1 := cmpf .oeq main_arg0 main_v2
  let main_v4 : IVec S4x19x512x1024 32 := (extui 32 · natLt_1_32) main_v3
  let main_v5 : FVec F S4x19x512x1024 .f32 := sitofp .f32 main_v4
  let main_cst_0 : FVec F S_ .f32 := constant S_ .f32 0x00000000#32
  let main_v6 : FVec F S4x512x1024 .f32 := (fun x v => Host.reduceAdd x v reducesTo_S4x19x512x1024_S4x512x1024_d1 h_S_) main_v5 main_cst_0
  let main_cst_1 : FVec F S_ .f32 := constant S_ .f32 0x3F800000#32
  let main_v7 : FVec F S4x512x1024 .f32 := broadcastInDim S4x512x1024 ![] bcast_S_S4x512x1024 main_cst_1
  let main_v8 : IVec S4x512x1024 1 := cmpf .oeq main_v6 main_v7
  let main_c : IVec S_ 1 := constantI S_ 1 1#1
  let main_v9 : IVec S_ 1 := (fun x v => Host.reduce IntOp.andi x v reducesTo_S4x512x1024_S_d0_1_2 h_S_) main_v8 main_c
  let main_cst_2 : FVec F S_ .f32 := constant S_ .f32 0xBF800000#32
  let main_v10 : FVec F S4x1x512x1024 .f32 := broadcastInDim S4x1x512x1024 ![] bcast_S_S4x1x512x1024 main_cst_2
  let main_v11 : IVec S4x1x512x1024 1 := cmpf .une main_v1 main_v10
  let main_c_3 : IVec S_ 1 := constantI S_ 1 1#1
  let main_v12 : IVec S_ 1 := (fun x v => Host.reduce IntOp.andi x v reducesTo_S4x1x512x1024_S_d0_1_2_3 h_S_) main_v11 main_c_3
  let main_v13 : IVec S_ 1 := andi main_v9 main_v12
  let main_v14 : FVec F S4x19x512x1024 .f32 := Host.absf main_arg0
  let main_cst_4 : FVec F S_ .f32 := constant S_ .f32 0x7F800000#32
  let main_v15 : FVec F S4x19x512x1024 .f32 := broadcastInDim S4x19x512x1024 ![] bcast_S_S4x19x512x1024 main_cst_4
  let main_v16 : IVec S4x19x512x1024 1 := cmpf .olt main_v14 main_v15
  fn_part1 (F := F) main_v13 main_v16
-- ==== Kernel.lean ====
abbrev S4x19x512x1024 : Shape := ⟨4, ![4, 19, 512, 1024]⟩
abbrev S4x2x1x19 : Shape := ⟨4, ![4, 2, 1, 19]⟩
abbrev S1x19x256x1024 : Shape := ⟨4, ![1, 19, 256, 1024]⟩
abbrev S1x1x1x19 : Shape := ⟨4, ![1, 1, 1, 19]⟩
abbrev S1x1x8x1024 : Shape := ⟨4, ![1, 1, 8, 1024]⟩
abbrev S8x1024 : Shape := ⟨2, ![8, 1024]⟩
abbrev S1x8x1024 : Shape := ⟨3, ![1, 8, 1024]⟩
abbrev S1 : Shape := ⟨1, ![1]⟩
abbrev S1x1x1 : Shape := ⟨3, ![1, 1, 1]⟩
abbrev S19 : Shape := ⟨1, ![19]⟩
abbrev S1x1 : Shape := ⟨2, ![1, 1]⟩
abbrev S4x2x19 : Shape := ⟨3, ![4, 2, 19]⟩
abbrev S4x19 : Shape := ⟨2, ![4, 19]⟩
abbrev S4 : Shape := ⟨1, ![4]⟩
abbrev S4x1 : Shape := ⟨2, ![4, 1]⟩
abbrev S1x4x19 : Shape := ⟨3, ![1, 4, 19]⟩
abbrev S_ : Shape := ⟨0, ![]⟩

abbrev nBuf : Space → Nat
  | .hbm => 5
  | .vmem => 9
  | .smem => 0
  | _ => 0

abbrev bufTy : (tb : Table) → Fin (tcTables nBuf tb) → BufTy
  | .hbm, ⟨0, _⟩ => ⟨S4x19x512x1024, .f32⟩
  | .hbm, ⟨1, _⟩ => ⟨S4x2x1x19, .f32⟩
  | .hbm, ⟨2, _⟩ => ⟨S4x2x1x19, .f32⟩
  | .hbm, ⟨3, _⟩ => ⟨S1x1, .f32⟩
  | .hbm, ⟨4, _⟩ => ⟨S_, .f32⟩
  | .local _ .vmem, ⟨0, _⟩ => ⟨S1x19x256x1024, .f32⟩
  | .local _ .vmem, ⟨1, _⟩ => ⟨S1x19x256x1024, .f32⟩
  | .local _ .vmem, ⟨2, _⟩ => ⟨S1x1x1x19, .f32⟩
  | .local _ .vmem, ⟨3, _⟩ => ⟨S1x1x1x19, .f32⟩
  | .local _ .vmem, ⟨4, _⟩ => ⟨S1x1x1x19, .f32⟩
  | .local _ .vmem, ⟨5, _⟩ => ⟨S1x1x1x19, .f32⟩
  | .local _ .vmem, ⟨6, _⟩ => ⟨S4x2x1x19, .f32⟩
  | .local _ .vmem, ⟨7, _⟩ => ⟨S4x2x1x19, .f32⟩
  | .local _ .vmem, ⟨8, _⟩ => ⟨S1x1, .f32⟩
  | _, _ => ⟨S4x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x19x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

abbrev stage1_0 : Fin 1 → Memref sig .tc .vmem S4x2x1x19 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x2x1x19 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "scale" => some ((-1 / 76 : ℝ) : EReal)
  | _ => none
-- ==== ReferenceIdeal.lean ====
abbrev S4x19x512x1024 : Shape := ⟨4, ![4, 19, 512, 1024]⟩
abbrev S_ : Shape := ⟨0, ![]⟩
abbrev S4x512x1024 : Shape := ⟨3, ![4, 512, 1024]⟩
abbrev S20 : Shape := ⟨1, ![20]⟩
abbrev S1 : Shape := ⟨1, ![1]⟩
abbrev S21 : Shape := ⟨1, ![21]⟩
abbrev S1x20x1x1 : Shape := ⟨4, ![1, 20, 1, 1]⟩
abbrev S4x1x512x1024 : Shape := ⟨4, ![4, 1, 512, 1024]⟩
abbrev S4x20x512x1024 : Shape := ⟨4, ![4, 20, 512, 1024]⟩
abbrev S4x20 : Shape := ⟨2, ![4, 20]⟩
abbrev S4x19 : Shape := ⟨2, ![4, 19]⟩
abbrev S4 : Shape := ⟨1, ![4]⟩
abbrev S4x1 : Shape := ⟨2, ![4, 1]⟩
abbrev S4x524288 : Shape := ⟨2, ![4, 524288]⟩
abbrev S4x524288x1 : Shape := ⟨3, ![4, 524288, 1]⟩

abbrev nBuf : Space → Nat
  | .hbm => 109
  | .vmem => 0
  | .smem => 0
  | _ => 0

abbrev bufTy : (tb : Table) → Fin (tcTables nBuf tb) → BufTy
  | .hbm, ⟨0, _⟩ => ⟨S4x19x512x1024, .f32⟩
  | .hbm, ⟨1, _⟩ => ⟨S_, .f32⟩
  | .hbm, ⟨2, _⟩ => ⟨S4x512x1024, .f32⟩
  | .hbm, ⟨3, _⟩ => ⟨S4x19x512x1024, .i32⟩
  | .hbm, ⟨4, _⟩ => ⟨S_, .f32⟩
  | .hbm, ⟨5, _⟩ => ⟨S_, .i32⟩
  | .hbm, ⟨6, _⟩ => ⟨S4x512x1024, .f32⟩
  | .hbm, ⟨7, _⟩ => ⟨S4x512x1024, .i32⟩
  | .hbm, ⟨8, _⟩ => ⟨S_, .f32⟩
  | .hbm, ⟨9, _⟩ => ⟨S4x512x1024, .f32⟩
  | .hbm, ⟨10, _⟩ => ⟨S4x512x1024, .i1⟩
  | .hbm, ⟨11, _⟩ => ⟨S_, .i32⟩
  | .hbm, ⟨12, _⟩ => ⟨S4x512x1024, .i32⟩
  | .hbm, ⟨13, _⟩ => ⟨S4x512x1024, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S20, .f32⟩
  | .hbm, ⟨22, _⟩ => ⟨S_, .f32⟩
  | .hbm, ⟨23, _⟩ => ⟨S20, .f32⟩
  | .hbm, ⟨24, _⟩ => ⟨S20, .f32⟩
  | .hbm, ⟨25, _⟩ => ⟨S1, .f32⟩
  | .hbm, ⟨26, _⟩ => ⟨S_, .f32⟩
  | .hbm, ⟨27, _⟩ => ⟨S20, .f32⟩
  | .hbm, ⟨28, _⟩ => ⟨S20, .f32⟩
  | .hbm, ⟨29, _⟩ => ⟨S20, .f32⟩
  | .hbm, ⟨30, _⟩ => ⟨S20, .f32⟩
  | .hbm, ⟨31, _⟩ => ⟨S1, .f32⟩
  | .hbm, ⟨32, _⟩ => ⟨S20, .f32⟩
  | .hbm, ⟨33, _⟩ => ⟨S20, .f32⟩
  | .hbm, ⟨34, _⟩ => ⟨S20, .f32⟩
  | .hbm, ⟨35, _⟩ => ⟨S1, .f32⟩
  | .hbm, ⟨36, _⟩ => ⟨S21, .f32⟩
  | .hbm, ⟨37, _⟩ => ⟨S20, .f32⟩
  | .hbm, ⟨38, _⟩ => ⟨S1x20x1x1, .f32⟩
  | .hbm, ⟨39, _⟩ => ⟨S20, .f32⟩
  | .hbm, ⟨40, _⟩ => ⟨S1x20x1x1, .f32⟩
  | .hbm, ⟨41, _⟩ => ⟨S20, .i32⟩
  | .hbm, ⟨42, _⟩ => ⟨S_, .i32⟩
  | .hbm, ⟨43, _⟩ => ⟨S20, .i32⟩
  | .hbm, ⟨44, _⟩ => ⟨S20, .i1⟩
  | .hbm, ⟨45, _⟩ => ⟨S1x20x1x1, .i1⟩
  | .hbm, ⟨46, _⟩ => ⟨S4x512x1024, .f32⟩
  | .hbm, ⟨47, _⟩ => ⟨S4x1x512x1024, .f32⟩
  | .hbm, ⟨48, _⟩ => ⟨S4x20x512x1024, .f32⟩
  | .hbm, ⟨49, _⟩ => ⟨S4x20x512x1024, .f32⟩
  | .hbm, ⟨50, _⟩ => ⟨S4x20x512x1024, .i1⟩
  | .hbm, ⟨51, _⟩ => ⟨S4x20x512x1024, .f32⟩
  | .hbm, ⟨52, _⟩ => ⟨S4x20x512x1024, .f32⟩
  | .hbm, ⟨53, _⟩ => ⟨S4x20x512x1024, .i1⟩
  | .hbm, ⟨54, _⟩ => ⟨S4x20x512x1024, .f32⟩
  | .hbm, ⟨55, _⟩ => ⟨S4x20x512x1024, .f32⟩
  | .hbm, ⟨56, _⟩ => ⟨S4x20x512x1024, .i1⟩
  | .hbm, ⟨57, _⟩ => ⟨S4x20x512x1024, .i1⟩
  | .hbm, ⟨58, _⟩ => ⟨S4x20x512x1024, .i1⟩
  | .hbm, ⟨59, _⟩ => ⟨S4x20x512x1024, .i1⟩
  | .hbm, ⟨60, _⟩ => ⟨S4x20x512x1024, .i1⟩
  | .hbm, ⟨61, _⟩ => ⟨S4x20x512x1024, .i32⟩
  | .hbm, ⟨62, _⟩ => ⟨S4x20x512x1024, .f32⟩
  | .hbm, ⟨63, _⟩ => ⟨S_, .f32⟩
  | .hbm, ⟨64, _⟩ => ⟨S4x20, .f32⟩
  | .hbm, ⟨65, _⟩ => ⟨S4x19, .f32⟩
  | .hbm, ⟨66, _⟩ => ⟨S_, .f32⟩
  | .hbm, ⟨67, _⟩ => ⟨S4, .f32⟩
  | .hbm, ⟨68, _⟩ => ⟨S4x1, .f32⟩
  | .hbm, ⟨69, _⟩ => ⟨S_, .f32⟩
  | .hbm, ⟨70, _⟩ => ⟨S4x19, .f32⟩
  | .hbm, ⟨71, _⟩ => ⟨S4x19, .f32⟩
  | .hbm, ⟨72, _⟩ => ⟨S_, .f32⟩
  | .hbm, ⟨73, _⟩ => ⟨S4x1, .f32⟩
  | .hbm, ⟨74, _⟩ => ⟨S4x1, .f32⟩
  | .hbm, ⟨75, _⟩ => ⟨S4x19, .f32⟩
  | .hbm, ⟨76, _⟩ => ⟨S4x19, .f32⟩
  | .hbm, ⟨77, _⟩ => ⟨S_, .f32⟩
  | .hbm, ⟨78, _⟩ => ⟨S4x19, .f32⟩
  | .hbm, ⟨79, _⟩ => ⟨S4x19, .f32⟩
  | .hbm, ⟨80, _⟩ => ⟨S_, .f32⟩
  | .hbm, ⟨81, _⟩ => ⟨S4x19, .f32⟩
  | .hbm, ⟨82, _⟩ => ⟨S4x19, .f32⟩
  | .hbm, ⟨83, _⟩ => ⟨S4x524288, .i32⟩
  | .hbm, ⟨84, _⟩ => ⟨S_, .i32⟩
  | .hbm, ⟨85, _⟩ => ⟨S4x524288, .i32⟩
  | .hbm, ⟨86, _⟩ => ⟨S4x524288, .i1⟩
  | .hbm, ⟨87, _⟩ => ⟨S_, .i32⟩
  | .hbm, ⟨88, _⟩ => ⟨S4x524288, .i32⟩
  | .hbm, ⟨89, _⟩ => ⟨S4x524288, .i32⟩
  | .hbm, ⟨90, _⟩ => ⟨S4x524288, .i32⟩
  | .hbm, ⟨91, _⟩ => ⟨S4x524288x1, .i32⟩
  | .hbm, ⟨92, _⟩ => ⟨S4x524288, .f32⟩
  | .hbm, ⟨93, _⟩ => ⟨S4x512x1024, .f32⟩
  | .hbm, ⟨94, _⟩ => ⟨S4x1x512x1024, .i1⟩
  | .hbm, ⟨95, _⟩ => ⟨S4x19x512x1024, .f32⟩
  | .hbm, ⟨96, _⟩ => ⟨S4x1x512x1024, .f32⟩
  | .hbm, ⟨97, _⟩ => ⟨S4x19x512x1024, .f32⟩
  | .hbm, ⟨98, _⟩ => ⟨S4x19x512x1024, .f32⟩
  | .hbm, ⟨99, _⟩ => ⟨S_, .f32⟩
  | .hbm, ⟨100, _⟩ => ⟨S_, .f32⟩
  | .hbm, ⟨101, _⟩ => ⟨S4x19x512x1024, .i1⟩
  | .hbm, ⟨102, _⟩ => ⟨S4x19x512x1024, .f32⟩
  | .hbm, ⟨103, _⟩ => ⟨S4x19x512x1024, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S4x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call1_v0 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_cst : Ref sig .tc := ⟨.hbm, 19, rfl⟩
abbrev main_call2_v3 : Ref sig .tc := ⟨.hbm, 20, rfl⟩
abbrev main_call2_v4 : Ref sig .tc := ⟨.hbm, 21, rfl⟩
abbrev main_call2_cst_0 : Ref sig .tc := ⟨.hbm, 22, rfl⟩
abbrev main_call2_v5 : Ref sig .tc := ⟨.hbm, 23, rfl⟩
abbrev main_call2_v6 : Ref sig .tc := ⟨.hbm, 24, rfl⟩
abbrev main_call2_v7 : Ref sig .tc := ⟨.hbm, 25, rfl⟩
abbrev main_call2_cst_1 : Ref sig .tc := ⟨.hbm, 26, rfl⟩
abbrev main_call2_v8 : Ref sig .tc := ⟨.hbm, 27, rfl⟩
abbrev main_call2_v9 : Ref sig .tc := ⟨.hbm, 28, rfl⟩
abbrev main_call2_v10 : Ref sig .tc := ⟨.hbm, 29, rfl⟩
abbrev main_call2_v11 : Ref sig .tc := ⟨.hbm, 30, rfl⟩
abbrev main_call2_v12 : Ref sig .tc := ⟨.hbm, 31, rfl⟩
abbrev main_call2_v13 : Ref sig .tc := ⟨.hbm, 32, rfl⟩
abbrev main_call2_v14 : Ref sig .tc := ⟨.hbm, 33, rfl⟩
abbrev main_call2_v15 : Ref sig .tc := ⟨.hbm, 34, rfl⟩
abbrev main_call2_v16 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_3 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_4 : Ref sig .tc := ⟨.hbm, 63, rfl⟩
abbrev main_v31 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_cst_7 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_10 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v53 : Ref sig .tc := ⟨.hbm, 103, rfl⟩
abbrev main_cst_11 : Ref sig .tc := ⟨.hbm, 104, rfl⟩
abbrev main_v54 : Ref sig .tc := ⟨.hbm, 105, rfl⟩
abbrev main_v55 : Ref sig .tc := ⟨.hbm, 106, rfl⟩
abbrev main_cst_12 : Ref sig .tc := ⟨.hbm, 107, rfl⟩
abbrev main_v56 : Ref sig .tc := ⟨.hbm, 108, rfl⟩

abbrev nD : Nat := 1
abbrev τ : Topo := Topo.v7x

variable {F : FTy → Type} [FloatOps F]
-- ==== Proof.RefRun.lean ====
/- The run of the reference program: its @main is a list of host operations, and after them each buffer holds the composed
   term of the argument. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v5`, named. It packs its operands into a list of dependent pairs
    whose shapes a later argument's type mentions, so `simp` cannot rewrite an operand where it stands; applied by
    name, the operands are plain arguments, which `run`'s simp pass rewrites before the name unfolds. -/
def fn_main_v5 : (main_call2_v15 : Ref sig .tc).ty.Contents (Elt F) → (main_call2_v16 : Ref sig .tc).ty.Contents (Elt F) → (main_v5 : Ref sig .tc).ty.Contents (Elt F) :=
  (fun a b => concatenate S21 0 [⟨S20, a⟩, ⟨S1, b⟩] concatenates_S20_S1_S21_d0)

/-- @main's 108 operations, in order (a called function's operations stand in its call's place, spelt `TRef.…`). -/
abbrev ops : List (HloOp τ sig (Elt F)) :=
  [ nullary main_cst (constant S_ .f32 0xFF800000#32),
    binary main_arg0 main_cst main_v0 ((fun x v => Host.reduce FloatOps.maximumf x v reducesTo_S4x19x512x1024_S4x512x1024_d1 h_S_) : (⟨S4x19x512x1024, .f32⟩ : BufTy).Contents (Elt F) → (⟨S_, .f32⟩ : BufTy).Contents (Elt F) → (⟨S4x512x1024, .f32⟩ : BufTy).Contents (Elt F)),
    TRef.nullary (TRef.of (T := ⟨S4x19x512x1024, .i32⟩) main_call0_v0) (iotaInDim S4x19x512x1024 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4x19x512x1024, .f32⟩) main_arg0) (TRef.of (T := ⟨S4x19x512x1024, .i32⟩) main_call0_v0) (TRef.of (T := ⟨S_, .f32⟩) main_call0_cst) (TRef.of (T := ⟨S_, .i32⟩) main_call0_c) (TRef.of (T := ⟨S4x512x1024, .f32⟩) main_call0_v1_0) (fun x y u v j => (Host.argReduce reducer_argmax_f32_i32 x y u v reducesTo_S4x19x512x1024_S4x512x1024_d1 h_S_ j).1),
    TRef.quaternary (TRef.of (T := ⟨S4x19x512x1024, .f32⟩) main_arg0) (TRef.of (T := ⟨S4x19x512x1024, .i32⟩) main_call0_v0) (TRef.of (T := ⟨S_, .f32⟩) main_call0_cst) (TRef.of (T := ⟨S_, .i32⟩) main_call0_c) (TRef.of (T := ⟨S4x512x1024, .i32⟩) main_v1) (fun x y u v j => (Host.argReduce reducer_argmax_f32_i32 x y u v reducesTo_S4x19x512x1024_S4x512x1024_d1 h_S_ j).2),
    nullary main_cst_0 (constant S_ .f32 0xBF800000#32),
    unary main_cst_0 main_v2 (broadcastInDim S4x512x1024 ![] bcast_S_S4x512x1024 : (⟨S_, .f32⟩ : BufTy).Contents (Elt F) → (⟨S4x512x1024, .f32⟩ : BufTy).Contents (Elt F)),
    binary main_v0 main_v2 main_v3 (cmpf .une : (⟨S4x512x1024, .f32⟩ : BufTy).Contents (Elt F) → (⟨S4x512x1024, .f32⟩ : BufTy).Contents (Elt F) → (⟨S4x512x1024, .i1⟩ : BufTy).Contents (Elt F)),
    nullary main_c (constantI S_ 32 4294967295#32),
    TRef.unary (TRef.of (T := ⟨S_, .i32⟩) main_c) (TRef.of (T := ⟨S4x512x1024, .i32⟩) main_call1_v0) (broadcastInDim S4x512x1024 ![] bcast_S_S4x512x1024),
    TRef.ternary (TRef.of (T := ⟨S4x512x1024, .i1⟩) main_v3) (TRef.of (T := ⟨S4x512x1024, .i32⟩) main_v1) (TRef.of (T := ⟨S4x512x1024, .i32⟩) main_call1_v0) (TRef.of (T := ⟨S4x512x1024, .i32⟩) main_v4) select,
    nullary main_cst_1 (constant S_ .f32 0xBF800000#32),
    nullary main_cst_2 (constant S_ .f32 0x41900000#32),
    TRef.unary (TRef.of (T := ⟨S_, .f32⟩) main_cst_1) (TRef.of (T := ⟨S_, .f32⟩) main_call2_v0) id,
    TRef.unary (TRef.of (T := ⟨S_, .f32⟩) main_cst_2) (TRef.of (T := ⟨S_, .f32⟩) main_call2_v1) id,
    TRef.binary (TRef.of (T := ⟨S_, .f32⟩) main_call2_v1) (TRef.of (T := ⟨S_, .f32⟩) main_call2_v0) (TRef.of (T := ⟨S_, .f32⟩) main_call2_v2) subf,
    TRef.nullary (TRef.of (T := ⟨S_, .f32⟩) main_call2_cst) (constant S_ .f32 0x41A00000#32),
    TRef.binary (TRef.of (T := ⟨S_, .f32⟩) main_call2_v2) (TRef.of (T := ⟨S_, .f32⟩) main_call2_cst) (TRef.of (T := ⟨S_, .f32⟩) main_call2_v3) Host.divf,
    TRef.nullary (TRef.of (T := ⟨S20, .f32⟩) main_call2_v4) (sitofp .f32 (iotaInDim S20 32 0)),
    TRef.nullary (TRef.of (T := ⟨S_, .f32⟩) main_call2_cst_0) (constant S_ .f32 0x41A00000#32),
    TRef.unary (TRef.of (T := ⟨S_, .f32⟩) main_call2_cst_0) (TRef.of (T := ⟨S20, .f32⟩) main_call2_v5) (broadcastInDim S20 ![] bcast_S_S20),
    TRef.binary (TRef.of (T := ⟨S20, .f32⟩) main_call2_v4) (TRef.of (T := ⟨S20, .f32⟩) main_call2_v5) (TRef.of (T := ⟨S20, .f32⟩) main_call2_v6) Host.divf,
    TRef.reshape (TRef.of (T := ⟨S_, .f32⟩) main_call2_v0) (TRef.of (T := ⟨S1, .f32⟩) main_call2_v7) (rfl : (.f32 : EltTy) = .f32) shapeCasts_S_S1,
    TRef.nullary (TRef.of (T := ⟨S_, .f32⟩) main_call2_cst_1) (constant S_ .f32 0x3F800000#32),
    TRef.unary (TRef.of (T := ⟨S_, .f32⟩) main_call2_cst_1) (TRef.of (T := ⟨S20, .f32⟩) main_call2_v8) (broadcastInDim S20 ![] bcast_S_S20),
    TRef.binary (TRef.of (T := ⟨S20, .f32⟩) main_call2_v8) (TRef.of (T := ⟨S20, .f32⟩) main_call2_v6) (TRef.of (T := ⟨S20, .f32⟩) main_call2_v9) subf,
    TRef.unary (TRef.of (T := ⟨S1, .f32⟩) main_call2_v7) (TRef.of (T := ⟨S20, .f32⟩) main_call2_v10) (broadcastInDim S20 ![0] bcast_S1_S20_0),
    TRef.binary (TRef.of (T := ⟨S20, .f32⟩) main_call2_v10) (TRef.of (T := ⟨S20, .f32⟩) main_call2_v9) (TRef.of (T := ⟨S20, .f32⟩) main_call2_v11) mulf,
    TRef.reshape (TRef.of (T := ⟨S_, .f32⟩) main_call2_v1) (TRef.of (T := ⟨S1, .f32⟩) main_call2_v12) (rfl : (.f32 : EltTy) = .f32) shapeCasts_S_S1,
    TRef.unary (TRef.of (T := ⟨S1, .f32⟩) main_call2_v12) (TRef.of (T := ⟨S20, .f32⟩) main_call2_v13) (broadcastInDim S20 ![0] bcast_S1_S20_0),
    TRef.binary (TRef.of (T := ⟨S20, .f32⟩) main_call2_v13) (TRef.of (T := ⟨S20, .f32⟩) main_call2_v6) (TRef.of (T := ⟨S20, .f32⟩) main_call2_v14) mulf,
    TRef.binary (TRef.of (T := ⟨S20, .f32⟩) main_call2_v11) (TRef.of (T := ⟨S20, .f32⟩) main_call2_v14) (TRef.of (T := ⟨S20, .f32⟩) main_call2_v15) addf,
    TRef.unary (TRef.of (T := ⟨S_, .f32⟩) main_call2_v1) (TRef.of (T := ⟨S1, .f32⟩) main_call2_v16) (broadcastInDim S1 ![] bcast_S_S1),
    TRef.binary (TRef.of (T := ⟨S20, .f32⟩) main_call2_v15) (TRef.of (T := ⟨S1, .f32⟩) main_call2_v16) (TRef.of (T := ⟨S21, .f32⟩) main_v5) (fn_main_v5 (F := F)),
    unary main_v5 main_v6 ((extractStridedSlice S20 ![0] · slices_S21_S20_0) : (⟨S21, .f32⟩ : BufTy).Contents (Elt F) → (⟨S20, .f32⟩ : BufTy).Contents (Elt F)),
    unary main_v6 main_v7 (broadcastInDim S1x20x1x1 ![1] bcast_S20_S1x20x1x1_1 : (⟨S20, .f32⟩ : BufTy).Contents (Elt F) → (⟨S1x20x1x1, .f32⟩ : BufTy).Contents (Elt F)),
    unary main_v5 main_v8 ((extractStridedSlice S20 ![1] · slices_S21_S20_1) : (⟨S21, .f32⟩ : BufTy).Contents (Elt F) → (⟨S20, .f32⟩ : BufTy).Contents (Elt F)),
    unary main_v8 main_v9 (broadcastInDim S1x20x1x1 ![1] bcast_S20_S1x20x1x1_1 : (⟨S20, .f32⟩ : BufTy).Contents (Elt F) → (⟨S1x20x1x1, .f32⟩ : BufTy).Contents (Elt F)),
    nullary main_v10 (iotaInDim S20 32 0),
    nullary main_c_3 (constantI S_ 32 19#32),
    unary main_c_3 main_v11 (broadcastInDim S20 ![] bcast_S_S20 : (⟨S_, .i32⟩ : BufTy).Contents (Elt F) → (⟨S20, .i32⟩ : BufTy).Contents (Elt F)),
    binary main_v10 main_v11 main_v12 (cmpi .eq : (⟨S20, .i32⟩ : BufTy).Contents (Elt F) → (⟨S20, .i32⟩ : BufTy).Contents (Elt F) → (⟨S20, .i1⟩ : BufTy).Contents (Elt F)),
    unary main_v12 main_v13 (broadcastInDim S1x20x1x1 ![1] bcast_S20_S1x20x1x1_1 : (⟨S20, .i1⟩ : BufTy).Contents (Elt F) → (⟨S1x20x1x1, .i1⟩ : BufTy).Contents (Elt F)),
    unary main_v4 main_v14 (sitofp .f32 : (⟨S4x512x1024, .i32⟩ : BufTy).Contents (Elt F) → (⟨S4x512x1024, .f32⟩ : BufTy).Contents (Elt F)),
    unary main_v14 main_v15 (broadcastInDim S4x1x512x1024 ![0, 2, 3] bcast_S4x512x1024_S4x1x512x1024_0_2_3 : (⟨S4x512x1024, .f32⟩ : BufTy).Contents (Elt F) → (⟨S4x1x512x1024, .f32⟩ : BufTy).Contents (Elt F)),
    unary main_v15 main_v16 (broadcastInDim S4x20x512x1024 ![0, 1, 2, 3] bcast_S4x1x512x1024_S4x20x512x1024_0_1_2_3 : (⟨S4x1x512x1024, .f32⟩ : BufTy).Contents (Elt F) → (⟨S4x20x512x1024, .f32⟩ : BufTy).Contents (Elt F)),
    unary main_v7 main_v17 (broadcastInDim S4x20x512x1024 ![0, 1, 2, 3] bcast_S1x20x1x1_S4x20x512x1024_0_1_2_3 : (⟨S1x20x1x1, .f32⟩ : BufTy).Contents (Elt F) → (⟨S4x20x512x1024, .f32⟩ : BufTy).Contents (Elt F)),
    binary main_v16 main_v17 main_v18 (cmpf .oge : (⟨S4x20x512x1024, .f32⟩ : BufTy).Contents (Elt F) → (⟨S4x20x512x1024, .f32⟩ : BufTy).Contents (Elt F) → (⟨S4x20x512x1024, .i1⟩ : BufTy).Contents (Elt F)),
    unary main_v15 main_v19 (broadcastInDim S4x20x512x1024 ![0, 1, 2, 3] bcast_S4x1x512x1024_S4x20x512x1024_0_1_2_3 : (⟨S4x1x512x1024, .f32⟩ : BufTy).Contents (Elt F) → (⟨S4x20x512x1024, .f32⟩ : BufTy).Contents (Elt F)),
    unary main_v9 main_v20 (broadcastInDim S4x20x512x1024 ![0, 1, 2, 3] bcast_S1x20x1x1_S4x20x512x1024_0_1_2_3 : (⟨S1x20x1x1, .f32⟩ : BufTy).Contents (Elt F) → (⟨S4x20x512x1024, .f32⟩ : BufTy).Contents (Elt F)),
    binary main_v19 main_v20 main_v21 (cmpf .olt : (⟨S4x20x512x1024, .f32⟩ : BufTy).Contents (Elt F) → (⟨S4x20x512x1024, .f32⟩ : BufTy).Contents (Elt F) → (⟨S4x20x512x1024, .i1⟩ : BufTy).Contents (Elt F)),
    unary main_v15 main_v22 (broadcastInDim S4x20x512x1024 ![0, 1, 2, 3] bcast_S4x1x512x1024_S4x20x512x1024_0_1_2_3 : (⟨S4x1x512x1024, .f32⟩ : BufTy).Contents (Elt F) → (⟨S4x20x512x1024, .f32⟩ : BufTy).Contents (Elt F)),
    unary main_v9 main_v23 (broadcastInDim S4x20x512x1024 ![0, 1, 2, 3] bcast_S1x20x1x1_S4x20x512x1024_0_1_2_3 : (⟨S1x20x1x1, .f32⟩ : BufTy).Contents (Elt F) → (⟨S4x20x512x1024, .f32⟩ : BufTy).Contents (Elt F)),
    binary main_v22 main_v23 main_v24 (cmpf .oeq : (⟨S4x20x512x1024, .f32⟩ : BufTy).Contents (Elt F) → (⟨S4x20x512x1024, .f32⟩ : BufTy).Contents (Elt F) → (⟨S4x20x512x1024, .i1⟩ : BufTy).Contents (Elt F)),
    unary main_v13 main_v25 (broadcastInDim S4x20x512x1024 ![0, 1, 2, 3] bcast_S1x20x1x1_S4x20x512x1024_0_1_2_3 : (⟨S1x20x1x1, .i1⟩ : BufTy).Contents (Elt F) → (⟨S4x20x512x1024, .i1⟩ : BufTy).Contents (Elt F)),
    binary main_v25 main_v24 main_v26 (andi : (⟨S4x20x512x1024, .i1⟩ : BufTy).Contents (Elt F) → (⟨S4x20x512x1024, .i1⟩ : BufTy).Contents (Elt F) → (⟨S4x20x512x1024, .i1⟩ : BufTy).Contents (Elt F)),
    binary main_v21 main_v26 main_v27 (ori : (⟨S4x20x512x1024, .i1⟩ : BufTy).Contents (Elt F) → (⟨S4x20x512x1024, .i1⟩ : BufTy).Contents (Elt F) → (⟨S4x20x512x1024, .i1⟩ : BufTy).Contents (Elt F)),
    binary main_v18 main_v27 main_v28 (andi : (⟨S4x20x512x1024, .i1⟩ : BufTy).Contents (Elt F) → (⟨S4x20x512x1024, .i1⟩ : BufTy).Contents (Elt F) → (⟨S4x20x512x1024, .i1⟩ : BufTy).Contents (Elt F)),
    unary main_v28 main_v29 ((extui 32 · natLt_1_32) : (⟨S4x20x512x1024, .i1⟩ : BufTy).Contents (Elt F) → (⟨S4x20x512x1024, .i32⟩ : BufTy).Contents (Elt F)),
    unary main_v29 main_v30 (sitofp .f32 : (⟨S4x20x512x1024, .i32⟩ : BufTy).Contents (Elt F) → (⟨S4x20x512x1024, .f32⟩ : BufTy).Contents (Elt F)),
    nullary main_cst_4 (constant S_ .f32 0x00000000#32),
    binary main_v30 main_cst_4 main_v31 ((fun x v => Host.reduceAdd x v reducesTo_S4x20x512x1024_S4x20_d2_3 h_S_) : (⟨S4x20x512x1024, .f32⟩ : BufTy).Contents (Elt F) → (⟨S_, .f32⟩ : BufTy).Contents (Elt F) → (⟨S4x20, .f32⟩ : BufTy).Contents (Elt F)),
    unary main_v31 main_v32 ((extractStridedSlice S4x19 ![0, 1] · slices_S4x20_S4x19_0_1) : (⟨S4x20, .f32⟩ : BufTy).Contents (Elt F) → (⟨S4x19, .f32⟩ : BufTy).Contents (Elt F)),
    nullary main_cst_5 (constant S_ .f32 0x00000000#32),
    binary main_v32 main_cst_5 main_v33 ((fun x v => Host.reduceAdd x v reducesTo_S4x19_S4_d1 h_S_) : (⟨S4x19, .f32⟩ : BufTy).Contents (Elt F) → (⟨S_, .f32⟩ : BufTy).Contents (Elt F) → (⟨S4, .f32⟩ : BufTy).Contents (Elt F)),
    unary main_v33 main_v34 (broadcastInDim S4x1 ![0] bcast_S4_S4x1_0 : (⟨S4, .f32⟩ : BufTy).Contents (Elt F) → (⟨S4x1, .f32⟩ : BufTy).Contents (Elt F)),
    nullary main_cst_6 (constant S_ .f32 0x3E4CCCCD#32),
    unary main_cst_6 main_v35 (broadcastInDim S4x19 ![] bcast_S_S4x19 : (⟨S_, .f32⟩ : BufTy).Contents (Elt F) → (⟨S4x19, .f32⟩ : BufTy).Contents (Elt F)),
    binary main_v32 main_v35 main_v36 (Host.powf : (⟨S4x19, .f32⟩ : BufTy).Contents (Elt F) → (⟨S4x19, .f32⟩ : BufTy).Contents (Elt F) → (⟨S4x19, .f32⟩ : BufTy).Contents (Elt F)),
    nullary main_cst_7 (constant S_ .f32 0x3F4CCCCD#32),
    unary main_cst_7 main_v37 (broadcastInDim S4x1 ![] bcast_S_S4x1 : (⟨S_, .f32⟩ : BufTy).Contents (Elt F) → (⟨S4x1, .f32⟩ : BufTy).Contents (Elt F)),
    binary main_v34 main_v37 main_v38 (Host.powf : (⟨S4x1, .f32⟩ : BufTy).Contents (Elt F) → (⟨S4x1, .f32⟩ : BufTy).Contents (Elt F) → (⟨S4x1, .f32⟩ : BufTy).Contents (Elt F)),
    unary main_v38 main_v39 (broadcastInDim S4x19 ![0, 1] bcast_S4x1_S4x19_0_1 : (⟨S4x1, .f32⟩ : BufTy).Contents (Elt F) → (⟨S4x19, .f32⟩ : BufTy).Contents (Elt F)),
    binary main_v36 main_v39 main_v40 (mulf : (⟨S4x19, .f32⟩ : BufTy).Contents (Elt F) → (⟨S4x19, .f32⟩ : BufTy).Contents (Elt F) → (⟨S4x19, .f32⟩ : BufTy).Contents (Elt F)),
    nullary main_cst_8 (constant S_ .f32 0x3F800000#32),
    unary main_cst_8 main_v41 (broadcastInDim S4x19 ![] bcast_S_S4x19 : (⟨S_, .f32⟩ : BufTy).Contents (Elt F) → (⟨S4x19, .f32⟩ : BufTy).Contents (Elt F)),
    binary main_v40 main_v41 main_v42 (maximumf : (⟨S4x19, .f32⟩ : BufTy).Contents (Elt F) → (⟨S4x19, .f32⟩ : BufTy).Contents (Elt F) → (⟨S4x19, .f32⟩ : BufTy).Contents (Elt F)),
    nullary main_cst_9 (constant S_ .f32 0x3F800000#32),
    unary main_cst_9 main_v43 (broadcastInDim S4x19 ![] bcast_S_S4x19 : (⟨S_, .f32⟩ : BufTy).Contents (Elt F) → (⟨S4x19, .f32⟩ : BufTy).Contents (Elt F)),
    binary main_v43 main_v42 main_v44 (Host.divf : (⟨S4x19, .f32⟩ : BufTy).Contents (Elt F) → (⟨S4x19, .f32⟩ : BufTy).Contents (Elt F) → (⟨S4x19, .f32⟩ : BufTy).Contents (Elt F)),
    reshape main_v4 main_v45 (rfl : (.i32 : EltTy) = .i32) shapeCasts_S4x512x1024_S4x524288,
    TRef.nullary (TRef.of (T := ⟨S_, .i32⟩) main_call3_c) (constantI S_ 32 0#32),
    TRef.unary (TRef.of (T := ⟨S_, .i32⟩) main_call3_c) (TRef.of (T := ⟨S4x524288, .i32⟩) main_call3_v0) (broadcastInDim S4x524288 ![] bcast_S_S4x524288),
    TRef.binary (TRef.of (T := ⟨S4x524288, .i32⟩) main_v45) (TRef.of (T := ⟨S4x524288, .i32⟩) main_call3_v0) (TRef.of (T := ⟨S4x524288, .i1⟩) main_call3_v1) (cmpi .slt),
    TRef.nullary (TRef.of (T := ⟨S_, .i32⟩) main_call3_c_0) (constantI S_ 32 19#32),
    TRef.unary (TRef.of (T := ⟨S_, .i32⟩) main_call3_c_0) (TRef.of (T := ⟨S4x524288, .i32⟩) main_call3_v2) (broadcastInDim S4x524288 ![] bcast_S_S4x524288),
    TRef.binary (TRef.of (T := ⟨S4x524288, .i32⟩) main_v45) (TRef.of (T := ⟨S4x524288, .i32⟩) main_call3_v2) (TRef.of (T := ⟨S4x524288, .i32⟩) main_call3_v3) addi,
    TRef.ternary (TRef.of (T := ⟨S4x524288, .i1⟩) main_call3_v1) (TRef.of (T := ⟨S4x524288, .i32⟩) main_call3_v3) (TRef.of (T := ⟨S4x524288, .i32⟩) main_v45) (TRef.of (T := ⟨S4x524288, .i32⟩) main_call3_v4) select,
    TRef.reshape (TRef.of (T := ⟨S4x524288, .i32⟩) main_call3_v4) (TRef.of (T := ⟨S4x524288x1, .i32⟩) main_call3_v5) (rfl : (.i32 : EltTy) = .i32) shapeCasts_S4x524288_S4x524288x1,
    TRef.binary (TRef.of (T := ⟨S4x19, .f32⟩) main_v44) (TRef.of (T := ⟨S4x524288x1, .i32⟩) main_call3_v5) (TRef.of (T := ⟨S4x524288, .f32⟩) main_v46) (fun x i => Host.gather gather_S4x19_S4x524288x1_S4x524288_n_1_0_0_1_2_11 x i),
    reshape main_v46 main_v47 (rfl : (.f32 : EltTy) = .f32) shapeCasts_S4x524288_S4x512x1024,
    unary main_v3 main_v48 (broadcastInDim S4x1x512x1024 ![0, 2, 3] bcast_S4x512x1024_S4x1x512x1024_0_2_3 : (⟨S4x512x1024, .i1⟩ : BufTy).Contents (Elt F) → (⟨S4x1x512x1024, .i1⟩ : BufTy).Contents (Elt F)),
    binary main_arg0 main_arg0 main_v49 (mulf : (⟨S4x19x512x1024, .f32⟩ : BufTy).Contents (Elt F) → (⟨S4x19x512x1024, .f32⟩ : BufTy).Contents (Elt F) → (⟨S4x19x512x1024, .f32⟩ : BufTy).Contents (Elt F)),
    unary main_v47 main_v50 (broadcastInDim S4x1x512x1024 ![0, 2, 3] bcast_S4x512x1024_S4x1x512x1024_0_2_3 : (⟨S4x512x1024, .f32⟩ : BufTy).Contents (Elt F) → (⟨S4x1x512x1024, .f32⟩ : BufTy).Contents (Elt F)),
    unary main_v50 main_v51 (broadcastInDim S4x19x512x1024 ![0, 1, 2, 3] bcast_S4x1x512x1024_S4x19x512x1024_0_1_2_3 : (⟨S4x1x512x1024, .f32⟩ : BufTy).Contents (Elt F) → (⟨S4x19x512x1024, .f32⟩ : BufTy).Contents (Elt F)),
    binary main_v49 main_v51 main_v52 (mulf : (⟨S4x19x512x1024, .f32⟩ : BufTy).Contents (Elt F) → (⟨S4x19x512x1024, .f32⟩ : BufTy).Contents (Elt F) → (⟨S4x19x512x1024, .f32⟩ : BufTy).Contents (Elt F)),
    nullary main_cst_10 (constant S_ .f32 0x00000000#32),
    TRef.unary (TRef.of (T := ⟨S_, .f32⟩) main_cst_10) (TRef.of (T := ⟨S_, .f32⟩) main_call4_v0) id,
    TRef.unary (TRef.of (T := ⟨S4x1x512x1024, .i1⟩) main_v48) (TRef.of (T := ⟨S4x19x512x1024, .i1⟩) main_call4_v1) (broadcastInDim S4x19x512x1024 ![0, 1, 2, 3] bcast_S4x1x512x1024_S4x19x512x1024_0_1_2_3),
    TRef.unary (TRef.of (T := ⟨S_, .f32⟩) main_call4_v0) (TRef.of (T := ⟨S4x19x512x1024, .f32⟩) main_call4_v2) (broadcastInDim S4x19x512x1024 ![] bcast_S_S4x19x512x1024),
    TRef.ternary (TRef.of (T := ⟨S4x19x512x1024, .i1⟩) main_call4_v1) (TRef.of (T := ⟨S4x19x512x1024, .f32⟩) main_v52) (TRef.of (T := ⟨S4x19x512x1024, .f32⟩) main_call4_v2) (TRef.of (T := ⟨S4x19x512x1024, .f32⟩) main_v53) select,
    nullary main_cst_11 (constant S_ .f32 0x00000000#32),
    binary main_v53 main_cst_11 main_v54 ((fun x v => Host.reduceAdd x v reducesTo_S4x19x512x1024_S_d0_1_2_3 h_S_) : (⟨S4x19x512x1024, .f32⟩ : BufTy).Contents (Elt F) → (⟨S_, .f32⟩ : BufTy).Contents (Elt F) → (⟨S_, .f32⟩ : BufTy).Contents (Elt F)),
    unary main_v54 main_v55 (Host.negf : (⟨S_, .f32⟩ : BufTy).Contents (Elt F) → (⟨S_, .f32⟩ : BufTy).Contents (Elt F)),
    nullary main_cst_12 (constant S_ .f32 0x42980000#32),
    binary main_v55 main_cst_12 main_v56 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., ternary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., unary_bufs_sub .., unary_bufs_sub .., unary_bufs_sub .., nullary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., unary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., reshape_bufs_sub .., binary_bufs_sub .., reshape_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., nullary_bufs_sub .., binary_bufs_sub ..⟩

set_option maxRecDepth 8192 in
/-- `main_v56`'s composed term of the arguments (named: it is long). -/
def res_main_v56 (m : (ℓ : Loc nD τ sig) → Buf (Elt F) ℓ) (c : Dev nD) : Buf (Elt F) ((c.tc : Thread nD τ).loc main_v56) :=
  Host.divf (Host.negf (Host.reduceAdd (select (broadcastInDim S4x19x512x1024 ![0, 1, 2, 3] bcast_S4x1x512x1024_S4x19x512x1024_0_1_2_3 (broadcastInDim S4x1x512x1024 ![0, 2, 3] bcast_S4x512x1024_S4x1x512x1024_0_2_3 (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))))) (mulf (mulf (m ((c.tc : Thread nD τ).loc main_arg0)) (m ((c.tc : Thread nD τ).loc main_arg0))) (broadcastInDim S4x19x512x1024 ![0, 1, 2, 3] bcast_S4x1x512x1024_S4x19x512x1024_0_1_2_3 (broadcastInDim S4x1x512x1024 ![0, 2, 3] bcast_S4x512x1024_S4x1x512x1024_0_2_3 (shapeCast _ (Host.gather gather_S4x19_S4x524288x1_S4x524288_n_1_0_0_1_2_11 (Host.divf (broadcastInDim S4x19 ![] bcast_S_S4x19 (constant S_ .f32 0x3F800000#32)) (maximumf (mulf (Host.powf (extractStridedSlice S4x19 ![0, 1] (Host.reduceAdd (sitofp .f32 (extui 32 (andi (cmpf .oge (broadcastInDim S4x20x512x1024 ![0, 1, 2, 3] bcast_S4x1x512x1024_S4x20x512x1024_0_1_2_3 (broadcastInDim S4x1x512x1024 ![0, 2, 3] bcast_S4x512x1024_S4x1x512x1024_0_2_3 (sitofp .f32 (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))))) : (⟨S4x20x512x1024, .f32⟩ : BufTy).Contents (Elt F)) (broadcastInDim S4x20x512x1024 ![0, 1, 2, 3] bcast_S1x20x1x1_S4x20x512x1024_0_1_2_3 (broadcastInDim S1x20x1x1 ![1] bcast_S20_S1x20x1x1_1 (extractStridedSlice S20 ![0] (concatenate S21 0 [⟨S20, (addf (mulf (broadcastInDim S20 ![0] bcast_S1_S20_0 (shapeCast _ (id (constant S_ .f32 0xBF800000#32)) shapeCasts_S_S1)) (subf (broadcastInDim S20 ![] bcast_S_S20 (constant S_ .f32 0x3F800000#32)) (Host.divf (sitofp .f32 (iotaInDim S20 32 0)) (broadcastInDim S20 ![] bcast_S_S20 (constant S_ .f32 0x41A00000#32))))) (mulf (broadcastInDim S20 ![0] bcast_S1_S20_0 (shapeCast _ (id (constant S_ .f32 0x41900000#32)) shapeCasts_S_S1)) (Host.divf (sitofp .f32 (iotaInDim S20 32 0)) (broadcastInDim S20 ![] bcast_S_S20 (constant S_ .f32 0x41A00000#32)))))⟩, ⟨S1, (broadcastInDim S1 ![] bcast_S_S1 (id (constant S_ .f32 0x41900000#32)))⟩] concatenates_S20_S1_S21_d0) slices_S21_S20_0)))) (ori (cmpf .olt (broadcastInDim S4x20x512x1024 ![0, 1, 2, 3] bcast_S4x1x512x1024_S4x20x512x1024_0_1_2_3 (broadcastInDim S4x1x512x1024 ![0, 2, 3] bcast_S4x512x1024_S4x1x512x1024_0_2_3 (sitofp .f32 (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))))) : (⟨S4x20x512x1024, .f32⟩ : BufTy).Contents (Elt F)) (broadcastInDim S4x20x512x1024 ![0, 1, 2, 3] bcast_S1x20x1x1_S4x20x512x1024_0_1_2_3 (broadcastInDim S1x20x1x1 ![1] bcast_S20_S1x20x1x1_1 (extractStridedSlice S20 ![1] (concatenate S21 0 [⟨S20, (addf (mulf (broadcastInDim S20 ![0] bcast_S1_S20_0 (shapeCast _ (id (constant S_ .f32 0xBF800000#32)) shapeCasts_S_S1)) (subf (broadcastInDim S20 ![] bcast_S_S20 (constant S_ .f32 0x3F800000#32)) (Host.divf (sitofp .f32 (iotaInDim S20 32 0)) (broadcastInDim S20 ![] bcast_S_S20 (constant S_ .f32 0x41A00000#32))))) (mulf (broadcastInDim S20 ![0] bcast_S1_S20_0 (shapeCast _ (id (constant S_ .f32 0x41900000#32)) shapeCasts_S_S1)) (Host.divf (sitofp .f32 (iotaInDim S20 32 0)) (broadcastInDim S20 ![] bcast_S_S20 (constant S_ .f32 0x41A00000#32)))))⟩, ⟨S1, (broadcastInDim S1 ![] bcast_S_S1 (id (constant S_ .f32 0x41900000#32)))⟩] concatenates_S20_S1_S21_d0) slices_S21_S20_1)))) (andi (broadcastInDim S4x20x512x1024 ![0, 1, 2, 3] bcast_S1x20x1x1_S4x20x512x1024_0_1_2_3 (broadcastInDim S1x20x1x1 ![1] bcast_S20_S1x20x1x1_1 (cmpi .eq (iotaInDim S20 32 0) (broadcastInDim S20 ![] bcast_S_S20 (constantI S_ 32 19#32))))) (cmpf .oeq (broadcastInDim S4x20x512x1024 ![0, 1, 2, 3] bcast_S4x1x512x1024_S4x20x512x1024_0_1_2_3 (broadcastInDim S4x1x512x1024 ![0, 2, 3] bcast_S4x512x1024_S4x1x512x1024_0_2_3 (sitofp .f32 (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))))) : (⟨S4x20x512x1024, .f32⟩ : BufTy).Contents (Elt F)) (broadcastInDim S4x20x512x1024 ![0, 1, 2, 3] bcast_S1x20x1x1_S4x20x512x1024_0_1_2_3 (broadcastInDim S1x20x1x1 ![1] bcast_S20_S1x20x1x1_1 (extractStridedSlice S20 ![1] (concatenate S21 0 [⟨S20, (addf (mulf (broadcastInDim S20 ![0] bcast_S1_S20_0 (shapeCast _ (id (constant S_ .f32 0xBF800000#32)) shapeCasts_S_S1)) (subf (broadcastInDim S20 ![] bcast_S_S20 (constant S_ .f32 0x3F800000#32)) (Host.divf (sitofp .f32 (iotaInDim S20 32 0)) (broadcastInDim S20 ![] bcast_S_S20 (constant S_ .f32 0x41A00000#32))))) (mulf (broadcastInDim S20 ![0] bcast_S1_S20_0 (shapeCast _ (id (constant S_ .f32 0x41900000#32)) shapeCasts_S_S1)) (Host.divf (sitofp .f32 (iotaInDim S20 32 0)) (broadcastInDim S20 ![] bcast_S_S20 (constant S_ .f32 0x41A00000#32)))))⟩, ⟨S1, (broadcastInDim S1 ![] bcast_S_S1 (id (constant S_ .f32 0x41900000#32)))⟩] concatenates_S20_S1_S21_d0) slices_S21_S20_1))))))) natLt_1_32)) (constant S_ .f32 0x00000000#32) reducesTo_S4x20x512x1024_S4x20_d2_3 h_S_) slices_S4x20_S4x19_0_1) (broadcastInDim S4x19 ![] bcast_S_S4x19 (constant S_ .f32 0x3E4CCCCD#32))) (broadcastInDim S4x19 ![0, 1] bcast_S4x1_S4x19_0_1 (Host.powf (broadcastInDim S4x1 ![0] bcast_S4_S4x1_0 (Host.reduceAdd (extractStridedSlice S4x19 ![0, 1] (Host.reduceAdd (sitofp .f32 (extui 32 (andi (cmpf .oge (broadcastInDim S4x20x512x1024 ![0, 1, 2, 3] bcast_S4x1x512x1024_S4x20x512x1024_0_1_2_3 (broadcastInDim S4x1x512x1024 ![0, 2, 3] bcast_S4x512x1024_S4x1x512x1024_0_2_3 (sitofp .f32 (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))))) : (⟨S4x20x512x1024, .f32⟩ : BufTy).Contents (Elt F)) (broadcastInDim S4x20x512x1024 ![0, 1, 2, 3] bcast_S1x20x1x1_S4x20x512x1024_0_1_2_3 (broadcastInDim S1x20x1x1 ![1] bcast_S20_S1x20x1x1_1 (extractStridedSlice S20 ![0] (concatenate S21 0 [⟨S20, (addf (mulf (broadcastInDim S20 ![0] bcast_S1_S20_0 (shapeCast _ (id (constant S_ .f32 0xBF800000#32)) shapeCasts_S_S1)) (subf (broadcastInDim S20 ![] bcast_S_S20 (constant S_ .f32 0x3F800000#32)) (Host.divf (sitofp .f32 (iotaInDim S20 32 0)) (broadcastInDim S20 ![] bcast_S_S20 (constant S_ .f32 0x41A00000#32))))) (mulf (broadcastInDim S20 ![0] bcast_S1_S20_0 (shapeCast _ (id (constant S_ .f32 0x41900000#32)) shapeCasts_S_S1)) (Host.divf (sitofp .f32 (iotaInDim S20 32 0)) (broadcastInDim S20 ![] bcast_S_S20 (constant S_ .f32 0x41A00000#32)))))⟩, ⟨S1, (broadcastInDim S1 ![] bcast_S_S1 (id (constant S_ .f32 0x41900000#32)))⟩] concatenates_S20_S1_S21_d0) slices_S21_S20_0)))) (ori (cmpf .olt (broadcastInDim S4x20x512x1024 ![0, 1, 2, 3] bcast_S4x1x512x1024_S4x20x512x1024_0_1_2_3 (broadcastInDim S4x1x512x1024 ![0, 2, 3] bcast_S4x512x1024_S4x1x512x1024_0_2_3 (sitofp .f32 (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))))) : (⟨S4x20x512x1024, .f32⟩ : BufTy).Contents (Elt F)) (broadcastInDim S4x20x512x1024 ![0, 1, 2, 3] bcast_S1x20x1x1_S4x20x512x1024_0_1_2_3 (broadcastInDim S1x20x1x1 ![1] bcast_S20_S1x20x1x1_1 (extractStridedSlice S20 ![1] (concatenate S21 0 [⟨S20, (addf (mulf (broadcastInDim S20 ![0] bcast_S1_S20_0 (shapeCast _ (id (constant S_ .f32 0xBF800000#32)) shapeCasts_S_S1)) (subf (broadcastInDim S20 ![] bcast_S_S20 (constant S_ .f32 0x3F800000#32)) (Host.divf (sitofp .f32 (iotaInDim S20 32 0)) (broadcastInDim S20 ![] bcast_S_S20 (constant S_ .f32 0x41A00000#32))))) (mulf (broadcastInDim S20 ![0] bcast_S1_S20_0 (shapeCast _ (id (constant S_ .f32 0x41900000#32)) shapeCasts_S_S1)) (Host.divf (sitofp .f32 (iotaInDim S20 32 0)) (broadcastInDim S20 ![] bcast_S_S20 (constant S_ .f32 0x41A00000#32)))))⟩, ⟨S1, (broadcastInDim S1 ![] bcast_S_S1 (id (constant S_ .f32 0x41900000#32)))⟩] concatenates_S20_S1_S21_d0) slices_S21_S20_1)))) (andi (broadcastInDim S4x20x512x1024 ![0, 1, 2, 3] bcast_S1x20x1x1_S4x20x512x1024_0_1_2_3 (broadcastInDim S1x20x1x1 ![1] bcast_S20_S1x20x1x1_1 (cmpi .eq (iotaInDim S20 32 0) (broadcastInDim S20 ![] bcast_S_S20 (constantI S_ 32 19#32))))) (cmpf .oeq (broadcastInDim S4x20x512x1024 ![0, 1, 2, 3] bcast_S4x1x512x1024_S4x20x512x1024_0_1_2_3 (broadcastInDim S4x1x512x1024 ![0, 2, 3] bcast_S4x512x1024_S4x1x512x1024_0_2_3 (sitofp .f32 (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))))) : (⟨S4x20x512x1024, .f32⟩ : BufTy).Contents (Elt F)) (broadcastInDim S4x20x512x1024 ![0, 1, 2, 3] bcast_S1x20x1x1_S4x20x512x1024_0_1_2_3 (broadcastInDim S1x20x1x1 ![1] bcast_S20_S1x20x1x1_1 (extractStridedSlice S20 ![1] (concatenate S21 0 [⟨S20, (addf (mulf (broadcastInDim S20 ![0] bcast_S1_S20_0 (shapeCast _ (id (constant S_ .f32 0xBF800000#32)) shapeCasts_S_S1)) (subf (broadcastInDim S20 ![] bcast_S_S20 (constant S_ .f32 0x3F800000#32)) (Host.divf (sitofp .f32 (iotaInDim S20 32 0)) (broadcastInDim S20 ![] bcast_S_S20 (constant S_ .f32 0x41A00000#32))))) (mulf (broadcastInDim S20 ![0] bcast_S1_S20_0 (shapeCast _ (id (constant S_ .f32 0x41900000#32)) shapeCasts_S_S1)) (Host.divf (sitofp .f32 (iotaInDim S20 32 0)) (broadcastInDim S20 ![] bcast_S_S20 (constant S_ .f32 0x41A00000#32)))))⟩, ⟨S1, (broadcastInDim S1 ![] bcast_S_S1 (id (constant S_ .f32 0x41900000#32)))⟩] concatenates_S20_S1_S21_d0) slices_S21_S20_1))))))) natLt_1_32)) (constant S_ .f32 0x00000000#32) reducesTo_S4x20x512x1024_S4x20_d2_3 h_S_) slices_S4x20_S4x19_0_1) (constant S_ .f32 0x00000000#32) reducesTo_S4x19_S4_d1 h_S_)) (broadcastInDim S4x1 ![] bcast_S_S4x1 (constant S_ .f32 0x3F4CCCCD#32))))) (broadcastInDim S4x19 ![] bcast_S_S4x19 (constant S_ .f32 0x3F800000#32)))) (shapeCast _ (select (cmpi .slt (shapeCast _ (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))) shapeCasts_S4x512x1024_S4x524288) (broadcastInDim S4x524288 ![] bcast_S_S4x524288 (constantI S_ 32 0#32))) (addi (shapeCast _ (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))) shapeCasts_S4x512x1024_S4x524288) (broadcastInDim S4x524288 ![] bcast_S_S4x524288 (constantI S_ 32 19#32))) (shapeCast _ (select (cmpf .une (Host.reduce FloatOps.maximumf (m ((c.tc : Thread nD τ).loc main_arg0)) (constant S_ .f32 0xFF800000#32) reducesTo_S4x19x512x1024_S4x512x1024_d1 h_S_) (broadcastInDim S4x512x1024 ![] bcast_S_S4x512x1024 (constant S_ .f32 0xBF800000#32))) ((fun j => (Host.argReduce reducer_argmax_f32_i32 (m ((c.tc : Thread nD τ).loc main_arg0)) (iotaInDim S4x19x512x1024 32 1) (constant S_ .f32 0xFF800000#32) (constantI S_ 32 0#32) reducesTo_S4x19x512x1024_S4x512x1024_d1 h_S_ j).2)) (broadcastInDim S4x512x1024 ![] bcast_S_S4x512x1024 (constantI S_ 32 4294967295#32))) shapeCasts_S4x512x1024_S4x524288)) shapeCasts_S4x524288_S4x524288x1)) shapeCasts_S4x524288_S4x512x1024)))) (broadcastInDim S4x19x512x1024 ![] bcast_S_S4x19x512x1024 (id (constant S_ .f32 0x00000000#32)))) (constant S_ .f32 0x00000000#32) reducesTo_S4x19x512x1024_S_d0_1_2_3 h_S_)) (constant S_ .f32 0x42980000#32)

set_option maxRecDepth 8192 in
set_option maxHeartbeats 43200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = res_main_v56 m c
      ∧ r.2.mem ((c.tc : Thread nD τ).loc main_arg0) = m ((c.tc : Thread nD τ).loc main_arg0) :=
  (θ_run defs _ _).mono (fun _ h c => ⟨(h c main_v56).trans (by simp only [ops, TRef.binary, TRef.nullary, TRef.quaternary, TRef.reshape, TRef.ternary, TRef.unary, TRef.toBuf, TRef.ofBuf, cast_eq]; after_results_simp <;> rfl <;> (unfold res_main_v56; rfl)),
      (h c main_arg0).trans (by simp only [ops, TRef.binary, TRef.nullary, TRef.quaternary, TRef.reshape, TRef.ternary, TRef.unary, TRef.toBuf, TRef.ofBuf, cast_eq]; after_results_simp <;> rfl)⟩)
    (run_seq scopedRefs_eq scopedSems_eq defs main (fun _ => ops) main_eq (fun _ => ops_sub) m ρ)

end Cert.RefRun

end
-- ==== Proof.RefRead.lean ====
/- The reference program's operations one at a time: `val_<buffer>` is what the operation leaves in its buffer, as a function
   of the argument, and `val_<buffer>_apply` states it at an index. -/
module

public import proofs.«01_k».proof.Proof.RefRun
public import Idealize.ShloMosaic.Lib.Pipeline.Value
public import Idealize.ShloMosaic.PureOps.Ideal.Laws

@[expose] public section

noncomputable section

namespace Cert.RefRead

open Cert.ReferenceIdeal Cert.ReferenceIdeal.Gen Idealize.ShloMosaic Idealize.ShloMosaic.TcCoe Idealize.SL.Sem Idealize.ShloMosaic.StableHlo

variable {F : FTy → Type} [FloatOps F]

def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

def val_main_v0 (x0 : (⟨S4x19x512x1024, .f32⟩ : BufTy).Contents (Elt F)) : (⟨S4x512x1024, .f32⟩ : BufTy).Contents (Elt F) :=
  Host.reduce FloatOps.maximumf (x0) (val_main_cst (F := F)) reducesTo_S4x19x512x1024_S4x512x1024_d1 h_S_

def val_main_call0_v0 : (⟨S4x19x512x1024, .i32⟩ : BufTy).Contents (Elt F) :=
  iotaInDim S4x19x512x1024 32 1
theorem val_main_call0_v0_apply (i : S4x19x512x1024.Idx) :
    val_main_call0_v0 (F := F) i = BitVec.ofNat 32 (i 1).val := rfl

def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

def val_main_call0_c : (⟨S_, .i32⟩ : BufTy).Contents (Elt F) :=
  constantI S_ 32 0#32
theorem val_main_call0_c_apply (i : S_.Idx) :
    val_main_call0_c (F := F) i = 0#32 := rfl

def val_main_call0_v1_0 (x0 : (⟨S4x19x512x1024, .f32⟩ : BufTy).Contents (Elt F)) : (⟨S4x512x1024, .f32⟩ : BufTy).Contents (Elt F) :=
  (fun j => (Host.argReduce reducer_argmax_f32_i32 (x0) (val_main_call0_v0 (F := F)) (val_main_call0_cst (F := F)) (val_main_call0_c (F := F)) reducesTo_S4x19x512x1024_S4x512x1024_d1 h_S_ j).1)

def val_main_v1 (x0 : (⟨S4x19x512x1024, .f32⟩ : BufTy).Contents (Elt F)) : (⟨S4x512x1024, .i32⟩ : BufTy).Contents (Elt F) :=
  (fun j => (Host.argReduce reducer_argmax_f32_i32 (x0) (val_main_call0_v0 (F := F)) (val_main_call0_cst (F := F)) (val_main_call0_c (F := F)) reducesTo_S4x19x512x1024_S4x512x1024_d1 h_S_ j).2)

def val_main_cst_0 : (⟨S_, .f32⟩ : BufTy).Contents (Elt F) :=
  constant S_ .f32 0xBF800000#32
theorem val_main_cst_0_apply (i : S_.Idx) :
    val_main_cst_0 (F := F) i = FloatOps.ofBits .f32 0xBF800000#32 := rfl

def val_main_v2 : (⟨S4x512x1024, .f32⟩ : BufTy).Contents (Elt F) :=
  broadcastInDim S4x512x1024 ![] bcast_S_S4x512x1024 (val_main_cst_0 (F := F))
abbrev idx_main_v2 (i : S4x512x1024.Idx) : S_.Idx := fun a => a.elim0
theorem val_main_v2_apply (i : S4x512x1024.Idx) :
    val_main_v2 (F := F) i = val_main_cst_0 (F := F) (idx_main_v2 i) := by
  unfold val_main_v2
  generalize val_main_cst_0 (F := F) = y
  exact broadcastInDim_apply _ bcast_S_S4x512x1024 y i (idx_main_v2 i) (fun a => a.elim0)

def val_main_v3 (x0 : (⟨S4x19x512x1024, .f32⟩ : BufTy).Contents (Elt F)) : (⟨S4x512x1024, .i1⟩ : BufTy).Contents (Elt F) :=
  cmpf .une (val_main_v0 (F := F) x0) (val_main_v2 (F := F))
theorem val_main_v3_apply (x0 : (⟨S4x19x512x1024, .f32⟩ : BufTy).Contents (Elt F)) (i : S4x512x1024.Idx) :
    val_main_v3 (F := F) x0 i = FloatOps.cmpf .une (val_main_v0 (F := F) x0 i) (val_main_v2 (F := F) i) := rfl

def val_main_c : (⟨S_, .i32⟩ : BufTy).Contents (Elt F) :=
  constantI S_ 32 4294967295#32
theorem val_main_c_apply (i : S_.Idx) :
    val_main_c (F := F) i = 4294967295#32 := rfl

def val_main_call1_v0 : (⟨S4x512x1024, .i32⟩ : BufTy).Contents (Elt F) :=
  broadcastInDim S4x512x1024 ![] bcast_S_S4x512x1024 (val_main_c (F := F))
abbrev idx_main_call1_v0 (i : S4x512x1024.Idx) : S_.Idx := fun a => a.elim0
theorem val_main_call1_v0_apply (i : S4x512x1024.Idx) :
    val_main_call1_v0 (F := F) i = val_main_c (F := F) (idx_main_call1_v0 i) := by
  unfold val_main_call1_v0
  generalize val_main_c (F := F) = y
  exact broadcastInDim_apply _ bcast_S_S4x512x1024 y i (idx_main_call1_v0 i) (fun a => a.elim0)

def val_main_v4 (x0 : (⟨S4x19x512x1024, .f32⟩ : BufTy).Contents (Elt F)) : (⟨S4x512x1024, .i32⟩ : BufTy).Contents (Elt F) :=
  select (val_main_v3 (F := F) x0) (val_main_v1 (F := F) x0) (val_main_call1_v0 (F := F))
theorem val_main_v4_apply (x0 : (⟨S4x19x512x1024, .f32⟩ : BufTy).Contents (Elt F)) (i : S4x512x1024.Idx) :
    val_main_v4 (F := F) x0 i = Scalar.select (val_main_v3 (F := F) x0 i) (val_main_v1 (F := F) x0 i) (val_main_call1_v0 (F := F) i) := rfl

def val_main_cst_1 : (⟨S_, .f32⟩ : BufTy).Contents (Elt F) :=
  constant S_ .f32 0xBF800000#32
theorem val_main_cst_1_apply (i : S_.Idx) :
    val_main_cst_1 (F := F) i = FloatOps.ofBits .f32 0xBF800000#32 := rfl

def val_main_cst_2 : (⟨S_, .f32⟩ : BufTy).Contents (Elt F) :=
  constant S_ .f32 0x41900000#32
theorem val_main_cst_2_apply (i : S_.Idx) :
    val_main_cst_2 (F := F) i = FloatOps.ofBits .f32 0x41900000#32 := rfl

def val_main_call2_v0 : (⟨S_, .f32⟩ : BufTy).Contents (Elt F) :=
  id (val_main_cst_1 (F := F))
theorem val_main_call2_v0_apply (i : S_.Idx) :
    val_main_call2_v0 (F := F) i = (val_main_cst_1 (F := F) i) := rfl

def val_main_call2_v1 : (⟨S_, .f32⟩ : BufTy).Contents (Elt F) :=
  id (val_main_cst_2 (F := F))
theorem val_main_call2_v1_apply (i : S_.Idx) :
    val_main_call2_v1 (F := F) i = (val_main_cst_2 (F := F) i) := rfl

def val_main_call2_v2 : (⟨S_, .f32⟩ : BufTy).Contents (Elt F) :=
  subf (val_main_call2_v1 (F := F)) (val_main_call2_v0 (F := F))
theorem val_main_call2_v2_apply (i : S_.Idx) :
    val_main_call2_v2 (F := F) i = FloatOps.subf (val_main_call2_v1 (F := F) i) (val_main_call2_v0 (F := F) i) := rfl

def val_main_call2_cst : (⟨S_, .f32⟩ : BufTy).Contents (Elt F) :=
  constant S_ .f32 0x41A00000#32
theorem val_main_call2_cst_apply (i : S_.Idx) :
    val_main_call2_cst (F := F) i = FloatOps.ofBits .f32 0x41A00000#32 := rfl

def val_main_call2_v3 : (⟨S_, .f32⟩ : BufTy).Contents (Elt F) :=
  Host.divf (val_main_call2_v2 (F := F)) (val_main_call2_cst (F := F))
theorem val_main_call2_v3_apply (i : S_.Idx) :
    val_main_call2_v3 (F := F) i = FloatOps.hostDivf (val_main_call2_v2 (F := F) i) (val_main_call2_cst (F := F) i) := rfl

def val_main_call2_v4 : (⟨S20, .f32⟩ : BufTy).Contents (Elt F) :=
  sitofp .f32 (iotaInDim S20 32 0)

def val_main_call2_cst_0 : (⟨S_, .f32⟩ : BufTy).Contents (Elt F) :=
  constant S_ .f32 0x41A00000#32
theorem val_main_call2_cst_0_apply (i : S_.Idx) :
    val_main_call2_cst_0 (F := F) i = FloatOps.ofBits .f32 0x41A00000#32 := rfl

def val_main_call2_v5 : (⟨S20, .f32⟩ : BufTy).Contents (Elt F) :=
  broadcastInDim S20 ![] bcast_S_S20 (val_main_call2_cst_0 (F := F))
abbrev idx_main_call2_v5 (i : S20.Idx) : S_.Idx := fun a => a.elim0
theorem val_main_call2_v5_apply (i : S20.Idx) :
    val_main_call2_v5 (F := F) i = val_main_call2_cst_0 (F := F) (idx_main_call2_v5 i) := by
  unfold val_main_call2_v5
  generalize val_main_call2_cst_0 (F := F) = y
  exact broadcastInDim_apply _ bcast_S_S20 y i (idx_main_call2_v5 i) (fun a => a.elim0)

def val_main_call2_v6 : (⟨S20, .f32⟩ : BufTy).Contents (Elt F) :=
  Host.divf (val_main_call2_v4 (F := F)) (val_main_call2_v5 (F := F))
theorem val_main_call2_v6_apply (i : S20.Idx) :
    val_main_call2_v6 (F := F) i = FloatOps.hostDivf (val_main_call2_v4 (F := F) i) (val_main_call2_v5 (F := F) i) := rfl

def val_main_call2_v7 : (⟨S1, .f32⟩ : BufTy).Contents (Elt F) :=
  shapeCast _ (val_main_call2_v0 (F := F)) shapeCasts_S_S1

def val_main_call2_cst_1 : (⟨S_, .f32⟩ : BufTy).Contents (Elt F) :=
  constant S_ .f32 0x3F800000#32
theorem val_main_call2_cst_1_apply (i : S_.Idx) :
    val_main_call2_cst_1 (F := F) i = FloatOps.ofBits .f32 0x3F800000#32 := rfl

def val_main_call2_v8 : (⟨S20, .f32⟩ : BufTy).Contents (Elt F) :=
  broadcastInDim S20 ![] bcast_S_S20 (val_main_call2_cst_1 (F := F))
abbrev idx_main_call2_v8 (i : S20.Idx) : S_.Idx := fun a => a.elim0
theorem val_main_call2_v8_apply (i : S20.Idx) :
    val_main_call2_v8 (F := F) i = val_main_call2_cst_1 (F := F) (idx_main_call2_v8 i) := by
  unfold val_main_call2_v8
  generalize val_main_call2_cst_1 (F := F) = y
  exact broadcastInDim_apply _ bcast_S_S20 y i (idx_main_call2_v8 i) (fun a => a.elim0)

def val_main_call2_v9 : (⟨S20, .f32⟩ : BufTy).Contents (Elt F) :=
  subf (val_main_call2_v8 (F := F)) (val_main_call2_v6 (F := F))
theorem val_main_call2_v9_apply (i : S20.Idx) :
    val_main_call2_v9 (F := F) i = FloatOps.subf (val_main_call2_v8 (F := F) i) (val_main_call2_v6 (F := F) i) := rfl

def val_main_call2_v10 : (⟨S20, .f32⟩ : BufTy).Contents (Elt F) :=
  broadcastInDim S20 ![0] bcast_S1_S20_0 (val_main_call2_v7 (F := F))
abbrev idx_main_call2_v10 (i : S20.Idx) : S1.Idx := fun a => match a with
  | ⟨0, _⟩ => ⟨0, Nat.one_pos⟩
theorem val_main_call2_v10_apply (i : S20.Idx) :
    val_main_call2_v10 (F := F) i = val_main_call2_v7 (F := F) (idx_main_call2_v10 i) := by
  unfold val_main_call2_v10
  generalize val_main_call2_v7 (F := F) = y
  exact broadcastInDim_apply _ bcast_S1_S20_0 y i (idx_main_call2_v10 i) (fun a => match a with
    | ⟨0, _⟩ => by show 0 = if (1 : Nat) = 1 then 0 else (i 0).val; rw [if_pos rfl])

def val_main_call2_v11 : (⟨S20, .f32⟩ : BufTy).Contents (Elt F) :=
  mulf (val_main_call2_v10 (F := F)) (val_main_call2_v9 (F := F))
theorem val_main_call2_v11_apply (i : S20.Idx) :
    val_main_call2_v11 (F := F) i = FloatOps.mulf (val_main_call2_v10 (F := F) i) (val_main_call2_v9 (F := F) i) := rfl

def val_main_call2_v12 : (⟨S1, .f32⟩ : BufTy).Contents (Elt F) :=
  shapeCast _ (val_main_call2_v1 (F := F)) shapeCasts_S_S1

def val_main_call2_v13 : (⟨S20, .f32⟩ : BufTy).Contents (Elt F) :=
  broadcastInDim S20 ![0] bcast_S1_S20_0 (val_main_call2_v12 (F := F))
abbrev idx_main_call2_v13 (i : S20.Idx) : S1.Idx := fun a => match a with
  | ⟨0, _⟩ => ⟨0, Nat.one_pos⟩
theorem val_main_call2_v13_apply (i : S20.Idx) :
    val_main_call2_v13 (F := F) i = val_main_call2_v12 (F := F) (idx_main_call2_v13 i) := by
  unfold val_main_call2_v13
  generalize val_main_call2_v12 (F := F) = y
  exact broadcastInDim_apply _ bcast_S1_S20_0 y i (idx_main_call2_v13 i) (fun a => match a with
    | ⟨0, _⟩ => by show 0 = if (1 : Nat) = 1 then 0 else (i 0).val; rw [if_pos rfl])

def val_main_call2_v14 : (⟨S20, .f32⟩ : BufTy).Contents (Elt F) :=
  mulf (val_main_call2_v13 (F := F)) (val_main_call2_v6 (F := F))
theorem val_main_call2_v14_apply (i : S20.Idx) :
    val_main_call2_v14 (F := F) i = FloatOps.mulf (val_main_call2_v13 (F := F) i) (val_main_call2_v6 (F := F) i) := rfl

def val_main_call2_v15 : (⟨S20, .f32⟩ : BufTy).Contents (Elt F) :=
  addf (val_main_call2_v11 (F := F)) (val_main_call2_v14 (F := F))
theorem val_main_call2_v15_apply (i : S20.Idx) :
    val_main_call2_v15 (F := F) i = FloatOps.addf (val_main_call2_v11 (F := F) i) (val_main_call2_v14 (F := F) i) := rfl

def val_main_call2_v16 : (⟨S1, .f32⟩ : BufTy).Contents (Elt F) :=
  broadcastInDim S1 ![] bcast_S_S1 (val_main_call2_v1 (F := F))
abbrev idx_main_call2_v16 (i : S1.Idx) : S_.Idx := fun a => a.elim0
theorem val_main_call2_v16_apply (i : S1.Idx) :
    val_main_call2_v16 (F := F) i = val_main_call2_v1 (F := F) (idx_main_call2_v16 i) := by
  unfold val_main_call2_v16
  generalize val_main_call2_v1 (F := F) = y
  exact broadcastInDim_apply _ bcast_S_S1 y i (idx_main_call2_v16 i) (fun a => a.elim0)

def val_main_v5 : (⟨S21, .f32⟩ : BufTy).Contents (Elt F) :=
  concatenate S21 0 [⟨S20, (val_main_call2_v15 (F := F))⟩, ⟨S1, (val_main_call2_v16 (F := F))⟩] concatenates_S20_S1_S21_d0

def val_main_v6 : (⟨S20, .f32⟩ : BufTy).Contents (Elt F) :=
  extractStridedSlice S20 ![0] (val_main_v5 (F := F)) slices_S21_S20_0
set_option backward.proofsInPublic true in
abbrev idx_main_v6 (i : S20.Idx) : S21.Idx := fun a => match a with
  | ⟨0, _⟩ => ⟨(i 0).val, by have h0 : (i 0).val < 20 := (i 0).isLt; show (i 0).val < 21; omega⟩
theorem val_main_v6_apply (i : S20.Idx) :
    val_main_v6 (F := F) i = val_main_v5 (F := F) (idx_main_v6 i) := by
  unfold val_main_v6
  generalize val_main_v5 (F := F) = y
  exact extractStridedSlice_apply ![0] y slices_S21_S20_0 i (idx_main_v6 i) (fun a => match a with
    | ⟨0, _⟩ => by show (i 0).val = 0 + (i 0).val; omega)

def val_main_v7 : (⟨S1x20x1x1, .f32⟩ : BufTy).Contents (Elt F) :=
  broadcastInDim S1x20x1x1 ![1] bcast_S20_S1x20x1x1_1 (val_main_v6 (F := F))
abbrev idx_main_v7 (i : S1x20x1x1.Idx) : S20.Idx := fun a => match a with
  | ⟨0, _⟩ => ⟨(i 1).val, (i 1).isLt⟩
theorem val_main_v7_apply (i : S1x20x1x1.Idx) :
    val_main_v7 (F := F) i = val_main_v6 (F := F) (idx_main_v7 i) := by
  unfold val_main_v7
  generalize val_main_v6 (F := F) = y
  exact broadcastInDim_apply _ bcast_S20_S1x20x1x1_1 y i (idx_main_v7 i) (fun a => match a with
    | ⟨0, _⟩ => by show (i 1).val = if (20 : Nat) = 1 then 0 else (i 1).val; rw [if_neg (by decide)])

def val_main_v8 : (⟨S20, .f32⟩ : BufTy).Contents (Elt F) :=
  extractStridedSlice S20 ![1] (val_main_v5 (F := F)) slices_S21_S20_1
set_option backward.proofsInPublic true in
abbrev idx_main_v8 (i : S20.Idx) : S21.Idx := fun a => match a with
  | ⟨0, _⟩ => ⟨1 + (i 0).val, by have h0 : (i 0).val < 20 := (i 0).isLt; show 1 + (i 0).val < 21; omega⟩
theorem val_main_v8_apply (i : S20.Idx) :
    val_main_v8 (F := F) i = val_main_v5 (F := F) (idx_main_v8 i) := by
  unfold val_main_v8
  generalize val_main_v5 (F := F) = y
  exact extractStridedSlice_apply ![1] y slices_S21_S20_1 i (idx_main_v8 i) (fun a => match a with
    | ⟨0, _⟩ => by show 1 + (i 0).val = 1 + (i 0).val; omega)

def val_main_v9 : (⟨S1x20x1x1, .f32⟩ : BufTy).Contents (Elt F) :=
  broadcastInDim S1x20x1x1 ![1] bcast_S20_S1x20x1x1_1 (val_main_v8 (F := F))
abbrev idx_main_v9 (i : S1x20x1x1.Idx) : S20.Idx := fun a => match a with
  | ⟨0, _⟩ => ⟨(i 1).val, (i 1).isLt⟩
theorem val_main_v9_apply (i : S1x20x1x1.Idx) :
    val_main_v9 (F := F) i = val_main_v8 (F := F) (idx_main_v9 i) := by
  unfold val_main_v9
  generalize val_main_v8 (F := F) = y
  exact broadcastInDim_apply _ bcast_S20_S1x20x1x1_1 y i (idx_main_v9 i) (fun a => match a with
    | ⟨0, _⟩ => by show (i 1).val = if (20 : Nat) = 1 then 0 else (i 1).val; rw [if_neg (by decide)])

def val_main_v10 : (⟨S20, .i32⟩ : BufTy).Contents (Elt F) :=
  iotaInDim S20 32 0
theorem val_main_v10_apply (i : S20.Idx) :
    val_main_v10 (F := F) i = BitVec.ofNat 32 (i 0).val := rfl

def val_main_c_3 : (⟨S_, .i32⟩ : BufTy).Contents (Elt F) :=
  constantI S_ 32 19#32
theorem val_main_c_3_apply (i : S_.Idx) :
    val_main_c_3 (F := F) i = 19#32 := rfl

def val_main_v11 : (⟨S20, .i32⟩ : BufTy).Contents (Elt F) :=
  broadcastInDim S20 ![] bcast_S_S20 (val_main_c_3 (F := F))
abbrev idx_main_v11 (i : S20.Idx) : S_.Idx := fun a => a.elim0
theorem val_main_v11_apply (i : S20.Idx) :
    val_main_v11 (F := F) i = val_main_c_3 (F := F) (idx_main_v11 i) := by
  unfold val_main_v11
  generalize val_main_c_3 (F := F) = y
  exact broadcastInDim_apply _ bcast_S_S20 y i (idx_main_v11 i) (fun a => a.elim0)

def val_main_v12 : (⟨S20, .i1⟩ : BufTy).Contents (Elt F) :=
  cmpi .eq (val_main_v10 (F := F)) (val_main_v11 (F := F))
theorem val_main_v12_apply (i : S20.Idx) :
    val_main_v12 (F := F) i = IntOp.cmpi .eq (val_main_v10 (F := F) i) (val_main_v11 (F := F) i) := rfl

def val_main_v13 : (⟨S1x20x1x1, .i1⟩ : BufTy).Contents (Elt F) :=
  broadcastInDim S1x20x1x1 ![1] bcast_S20_S1x20x1x1_1 (val_main_v12 (F := F))
abbrev idx_main_v13 (i : S1x20x1x1.Idx) : S20.Idx := fun a => match a with
  | ⟨0, _⟩ => ⟨(i 1).val, (i 1).isLt⟩
theorem val_main_v13_apply (i : S1x20x1x1.Idx) :
    val_main_v13 (F := F) i = val_main_v12 (F := F) (idx_main_v13 i) := by
  unfold val_main_v13
  generalize val_main_v12 (F := F) = y
  exact broadcastInDim_apply _ bcast_S20_S1x20x1x1_1 y i (idx_main_v13 i) (fun a => match a with
    | ⟨0, _⟩ => by show (i 1).val = if (20 : Nat) = 1 then 0 else (i 1).val; rw [if_neg (by decide)])

def val_main_v14 (x0 : (⟨S4x19x512x1024, .f32⟩ : BufTy).Contents (Elt F)) : (⟨S4x512x1024, .f32⟩ : BufTy).Contents (Elt F) :=
  sitofp .f32 (val_main_v4 (F := F) x0)
theorem val_main_v14_apply (x0 : (⟨S4x19x512x1024, .f32⟩ : BufTy).Contents (Elt F)) (i : S4x512x1024.Idx) :
    val_main_v14 (F := F) x0 i = FloatOps.sitofp .f32 (val_main_v4 (F := F) x0 i) := rfl

def val_main_v15 (x0 : (⟨S4x19x512x1024, .f32⟩ : BufTy).Contents (Elt F)) : (⟨S4x1x512x1024, .f32⟩ : BufTy).Contents (Elt F) :=
  broadcastInDim S4x1x512x1024 ![0, 2, 3] bcast_S4x512x1024_S4x1x512x1024_0_2_3 (val_main_v14 (F := F) x0)
abbrev idx_main_v15 (i : S4x1x512x1024.Idx) : S4x512x1024.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v15_apply (x0 : (⟨S4x19x512x1024, .f32⟩ : BufTy).Contents (Elt F)) (i : S4x1x512x1024.Idx) :
    val_main_v15 (F := F) x0 i = val_main_v14 (F := F) x0 (idx_main_v15 i) := by
  unfold val_main_v15
  generalize val_main_v14 (F := F) x0 = y
  exact broadcastInDim_apply _ bcast_S4x512x1024_S4x1x512x1024_0_2_3 y i (idx_main_v15 i) (fun a => match a with
    | ⟨0, _⟩ => by show (i 0).val = if (4 : Nat) = 1 then 0 else (i 0).val; rw [if_neg (by decide)]
    | ⟨1, _⟩ => by show (i 2).val = if (512 : Nat) = 1 then 0 else (i 2).val; rw [if_neg (by decide)]
    | ⟨2, _⟩ => by show (i 3).val = if (1024 : Nat) = 1 then 0 else (i 3).val; rw [if_neg (by decide)])

def val_main_v16 (x0 : (⟨S4x19x512x1024, .f32⟩ : BufTy).Contents (Elt F)) : (⟨S4x20x512x1024, .f32⟩ : BufTy).Contents (Elt F) :=
  broadcastInDim S4x20x512x1024 ![0, 1, 2, 3] bcast_S4x1x512x1024_S4x20x512x1024_0_1_2_3 (val_main_v15 (F := F) x0)
abbrev idx_main_v16 (i : S4x20x512x1024.Idx) : S4x1x512x1024.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v16_apply (x0 : (⟨S4x19x512x1024, .f32⟩ : BufTy).Contents (Elt F)) (i : S4x20x512x1024.Idx) :
    val_main_v16 (F := F) x0 i = val_main_v15 (F := F) x0 (idx_main_v16 i) := by
  unfold val_main_v16
  generalize val_main_v15 (F := F) x0 = y
  exact broadcastInDim_apply _ bcast_S4x1x512x1024_S4x20x512x1024_0_1_2_3 y i (idx_main_v16 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (1024 : Nat) = 1 then 0 else (i 3).val; rw [if_neg (by decide)])

def val_main_v17 : (⟨S4x20x512x1024, .f32⟩ : BufTy).Contents (Elt F) :=
  broadcastInDim S4x20x512x1024 ![0, 1, 2, 3] bcast_S1x20x1x1_S4x20x512x1024_0_1_2_3 (val_main_v7 (F := F))
abbrev idx_main_v17 (i : S4x20x512x1024.Idx) : S1x20x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v17_apply (i : S4x20x512x1024.Idx) :
    val_main_v17 (F := F) i = val_main_v7 (F := F) (idx_main_v17 i) := by
  unfold val_main_v17
  generalize val_main_v7 (F := F) = y
  exact broadcastInDim_apply _ bcast_S1x20x1x1_S4x20x512x1024_0_1_2_3 y i (idx_main_v17 i) (fun a => match a with
    | ⟨0, _⟩ => by show 0 = if (1 : Nat) = 1 then 0 else (i 0).val; rw [if_pos rfl]
    | ⟨1, _⟩ => by show (i 1).val = if (20 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

def val_main_v18 (x0 : (⟨S4x19x512x1024, .f32⟩ : BufTy).Contents (Elt F)) : (⟨S4x20x512x1024, .i1⟩ : BufTy).Contents (Elt F) :=
  cmpf .oge (val_main_v16 (F := F) x0) (val_main_v17 (F := F))
theorem val_main_v18_apply (x0 : (⟨S4x19x512x1024, .f32⟩ : BufTy).Contents (Elt F)) (i : S4x20x512x1024.Idx) :
    val_main_v18 (F := F) x0 i = FloatOps.cmpf .oge (val_main_v16 (F := F) x0 i) (val_main_v17 (F := F) i) := rfl

def val_main_v19 (x0 : (⟨S4x19x512x1024, .f32⟩ : BufTy).Contents (Elt F)) : (⟨S4x20x512x1024, .f32⟩ : BufTy).Contents (Elt F) :=
  broadcastInDim S4x20x512x1024 ![0, 1, 2, 3] bcast_S4x1x512x1024_S4x20x512x1024_0_1_2_3 (val_main_v15 (F := F) x0)
abbrev idx_main_v19 (i : S4x20x512x1024.Idx) : S4x1x512x1024.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v19_apply (x0 : (⟨S4x19x512x1024, .f32⟩ : BufTy).Contents (Elt F)) (i : S4x20x512x1024.Idx) :
    val_main_v19 (F := F) x0 i = val_main_v15 (F := F) x0 (idx_main_v19 i) := by
  unfold val_main_v19
  generalize val_main_v15 (F := F) x0 = y
  exact broadcastInDim_apply _ bcast_S4x1x512x1024_S4x20x512x1024_0_1_2_3 y i (idx_main_v19 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (1024 : Nat) = 1 then 0 else (i 3).val; rw [if_neg (by decide)])

def val_main_v20 : (⟨S4x20x512x1024, .f32⟩ : BufTy).Contents (Elt F) :=
  broadcastInDim S4x20x512x1024 ![0, 1, 2, 3] bcast_S1x20x1x1_S4x20x512x1024_0_1_2_3 (val_main_v9 (F := F))
abbrev idx_main_v20 (i : S4x20x512x1024.Idx) : S1x20x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v20_apply (i : S4x20x512x1024.Idx) :
    val_main_v20 (F := F) i = val_main_v9 (F := F) (idx_main_v20 i) := by
  unfold val_main_v20
  generalize val_main_v9 (F := F) = y
  exact broadcastInDim_apply _ bcast_S1x20x1x1_S4x20x512x1024_0_1_2_3 y i (idx_main_v20 i) (fun a => match a with
    | ⟨0, _⟩ => by show 0 = if (1 : Nat) = 1 then 0 else (i 0).val; rw [if_pos rfl]
    | ⟨1, _⟩ => by show (i 1).val = if (20 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

def val_main_v21 (x0 : (⟨S4x19x512x1024, .f32⟩ : BufTy).Contents (Elt F)) : (⟨S4x20x512x1024, .i1⟩ : BufTy).Contents (Elt F) :=
  cmpf .olt (val_main_v19 (F := F) x0) (val_main_v20 (F := F))
theorem val_main_v21_apply (x0 : (⟨S4x19x512x1024, .f32⟩ : BufTy).Contents (Elt F)) (i : S4x20x512x1024.Idx) :
    val_main_v21 (F := F) x0 i = FloatOps.cmpf .olt (val_main_v19 (F := F) x0 i) (val_main_v20 (F := F) i) := rfl

def val_main_v22 (x0 : (⟨S4x19x512x1024, .f32⟩ : BufTy).Contents (Elt F)) : (⟨S4x20x512x1024, .f32⟩ : BufTy).Contents (Elt F) :=
  broadcastInDim S4x20x512x1024 ![0, 1, 2, 3] bcast_S4x1x512x1024_S4x20x512x1024_0_1_2_3 (val_main_v15 (F := F) x0)
abbrev idx_main_v22 (i : S4x20x512x1024.Idx) : S4x1x512x1024.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v22_apply (x0 : (⟨S4x19x512x1024, .f32⟩ : BufTy).Contents (Elt F)) (i : S4x20x512x1024.Idx) :
    val_main_v22 (F := F) x0 i = val_main_v15 (F := F) x0 (idx_main_v22 i) := by
  unfold val_main_v22
  generalize val_main_v15 (F := F) x0 = y
  exact broadcastInDim_apply _ bcast_S4x1x512x1024_S4x20x512x1024_0_1_2_3 y i (idx_main_v22 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (1024 : Nat) = 1 then 0 else (i 3).val; rw [if_neg (by decide)])

def val_main_v23 : (⟨S4x20x512x1024, .f32⟩ : BufTy).Contents (Elt F) :=
  broadcastInDim S4x20x512x1024 ![0, 1, 2, 3] bcast_S1x20x1x1_S4x20x512x1024_0_1_2_3 (val_main_v9 (F := F))
abbrev idx_main_v23 (i : S4x20x512x1024.Idx) : S1x20x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v23_apply (i : S4x20x512x1024.Idx) :
    val_main_v23 (F := F) i = val_main_v9 (F := F) (idx_main_v23 i) := by
  unfold val_main_v23
  generalize val_main_v9 (F := F) = y
  exact broadcastInDim_apply _ bcast_S1x20x1x1_S4x20x512x1024_0_1_2_3 y i (idx_main_v23 i) (fun a => match a with
    | ⟨0, _⟩ => by show 0 = if (1 : Nat) = 1 then 0 else (i 0).val; rw [if_pos rfl]
    | ⟨1, _⟩ => by show (i 1).val = if (20 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

def val_main_v24 (x0 : (⟨S4x19x512x1024, .f32⟩ : BufTy).Contents (Elt F)) : (⟨S4x20x512x1024, .i1⟩ : BufTy).Contents (Elt F) :=
  cmpf .oeq (val_main_v22 (F := F) x0) (val_main_v23 (F := F))
theorem val_main_v24_apply (x0 : (⟨S4x19x512x1024, .f32⟩ : BufTy).Contents (Elt F)) (i : S4x20x512x1024.Idx) :
    val_main_v24 (F := F) x0 i = FloatOps.cmpf .oeq (val_main_v22 (F := F) x0 i) (val_main_v23 (F := F) i) := rfl

def val_main_v25 : (⟨S4x20x512x1024, .i1⟩ : BufTy).Contents (Elt F) :=
  broadcastInDim S4x20x512x1024 ![0, 1, 2, 3] bcast_S1x20x1x1_S4x20x512x1024_0_1_2_3 (val_main_v13 (F := F))
abbrev idx_main_v25 (i : S4x20x512x1024.Idx) : S1x20x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v25_apply (i : S4x20x512x1024.Idx) :
    val_main_v25 (F := F) i = val_main_v13 (F := F) (idx_main_v25 i) := by
  unfold val_main_v25
  generalize val_main_v13 (F := F) = y
  exact broadcastInDim_apply _ bcast_S1x20x1x1_S4x20x512x1024_0_1_2_3 y i (idx_main_v25 i) (fun a => match a with
    | ⟨0, _⟩ => by show 0 = if (1 : Nat) = 1 then 0 else (i 0).val; rw [if_pos rfl]
    | ⟨1, _⟩ => by show (i 1).val = if (20 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

def val_main_v26 (x0 : (⟨S4x19x512x1024, .f32⟩ : BufTy).Contents (Elt F)) : (⟨S4x20x512x1024, .i1⟩ : BufTy).Contents (Elt F) :=
  andi (val_main_v25 (F := F)) (val_main_v24 (F := F) x0)
theorem val_main_v26_apply (x0 : (⟨S4x19x512x1024, .f32⟩ : BufTy).Contents (Elt F)) (i : S4x20x512x1024.Idx) :
    val_main_v26 (F := F) x0 i = IntOp.andi (val_main_v25 (F := F) i) (val_main_v24 (F := F) x0 i) := rfl

def val_main_v27 (x0 : (⟨S4x19x512x1024, .f32⟩ : BufTy).Contents (Elt F)) : (⟨S4x20x512x1024, .i1⟩ : BufTy).Contents (Elt F) :=
  ori (val_main_v21 (F := F) x0) (val_main_v26 (F := F) x0)
theorem val_main_v27_apply (x0 : (⟨S4x19x512x1024, .f32⟩ : BufTy).Contents (Elt F)) (i : S4x20x512x1024.Idx) :
    val_main_v27 (F := F) x0 i = IntOp.ori (val_main_v21 (F := F) x0 i) (val_main_v26 (F := F) x0 i) := rfl

def val_main_v28 (x0 : (⟨S4x19x512x1024, .f32⟩ : BufTy).Contents (Elt F)) : (⟨S4x20x512x1024, .i1⟩ : BufTy).Contents (Elt F) :=
  andi (val_main_v18 (F := F) x0) (val_main_v27 (F := F) x0)
theorem val_main_v28_apply (x0 : (⟨S4x19x512x1024, .f32⟩ : BufTy).Contents (Elt F)) (i : S4x20x512x1024.Idx) :
    val_main_v28 (F := F) x0 i = IntOp.andi (val_main_v18 (F := F) x0 i) (val_main_v27 (F := F) x0 i) := rfl

def val_main_v29 (x0 : (⟨S4x19x512x1024, .f32⟩ : BufTy).Contents (Elt F)) : (⟨S4x20x512x1024, .i32⟩ : BufTy).Contents (Elt F) :=
  extui 32 (val_main_v28 (F := F) x0) natLt_1_32
theorem val_main_v29_apply (x0 : (⟨S4x19x512x1024, .f32⟩ : BufTy).Contents (Elt F)) (i : S4x20x512x1024.Idx) :
    val_main_v29 (F := F) x0 i = (val_main_v28 (F := F) x0 i).setWidth 32 := rfl

def val_main_v30 (x0 : (⟨S4x19x512x1024, .f32⟩ : BufTy).Contents (Elt F)) : (⟨S4x20x512x1024, .f32⟩ : BufTy).Contents (Elt F) :=
  sitofp .f32 (val_main_v29 (F := F) x0)
theorem val_main_v30_apply (x0 : (⟨S4x19x512x1024, .f32⟩ : BufTy).Contents (Elt F)) (i : S4x20x512x1024.Idx) :
    val_main_v30 (F := F) x0 i = FloatOps.sitofp .f32 (val_main_v29 (F := F) x0 i) := rfl

def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

def val_main_v31 (x0 : (⟨S4x19x512x1024, .f32⟩ : BufTy).Contents (Elt F)) : (⟨S4x20, .f32⟩ : BufTy).Contents (Elt F) :=
  Host.reduceAdd (val_main_v30 (F := F) x0) (val_main_cst_4 (F := F)) reducesTo_S4x20x512x1024_S4x20_d2_3 h_S_

def val_main_v32 (x0 : (⟨S4x19x512x1024, .f32⟩ : BufTy).Contents (Elt F)) : (⟨S4x19, .f32⟩ : BufTy).Contents (Elt F) :=
  extractStridedSlice S4x19 ![0, 1] (val_main_v31 (F := F) x0) slices_S4x20_S4x19_0_1
set_option backward.proofsInPublic true in
abbrev idx_main_v32 (i : S4x19.Idx) : S4x20.Idx := fun a => match a with
  | ⟨0, _⟩ => ⟨(i 0).val, (i 0).isLt⟩
  | ⟨1, _⟩ => ⟨1 + (i 1).val, by have h1 : (i 1).val < 19 := (i 1).isLt; show 1 + (i 1).val < 20; omega⟩
theorem val_main_v32_apply (x0 : (⟨S4x19x512x1024, .f32⟩ : BufTy).Contents (Elt F)) (i : S4x19.Idx) :
    val_main_v32 (F := F) x0 i = val_main_v31 (F := F) x0 (idx_main_v32 i) := by
  unfold val_main_v32
  generalize val_main_v31 (F := F) x0 = y
  exact extractStridedSlice_apply ![0, 1] y slices_S4x20_S4x19_0_1 i (idx_main_v32 i) (fun a => match a with
    | ⟨0, _⟩ => by show (i 0).val = 0 + (i 0).val; omega
    | ⟨1, _⟩ => by show 1 + (i 1).val = 1 + (i 1).val; omega)

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v33 (x0 : (⟨S4x19x512x1024, .f32⟩ : BufTy).Contents (Elt F)) : (⟨S4, .f32⟩ : BufTy).Contents (Elt F) :=
  Host.reduceAdd (val_main_v32 (F := F) x0) (val_main_cst_5 (F := F)) reducesTo_S4x19_S4_d1 h_S_
abbrev idx_main_v33 (i : S4.Idx) (k : Fin 19) : S4x19.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v33_apply (x0 : (⟨S4x19x512x1024, .f32⟩ : BufTy).Contents (Elt Ideal)) (i : S4.Idx) :
    val_main_v33 (F := Ideal) x0 i = (val_main_cst_5 (F := Ideal)) (Shape.Idx.first h_S_) + ∑ k : Fin 19, (val_main_v32 (F := Ideal) x0) (idx_main_v33 i k) := by
  unfold val_main_v33
  generalize val_main_v32 (F := Ideal) x0 = y0
  simp only [Host.reduceAdd, Ideal.hostReduceAdd_def]
  rw [Ideal.hostReduceAdd_single reducesTo_S4x19_S4_d1 (by decide)]
  refine congrArg (_ + ·) (Finset.sum_congr rfl fun k _ => ?_)
  exact congrArg y0 (funext fun a => Fin.ext (by match a with | ⟨0, _⟩ => rfl | ⟨1, _⟩ => rfl))

def val_main_v34 (x0 : (⟨S4x19x512x1024, .f32⟩ : BufTy).Contents (Elt F)) : (⟨S4x1, .f32⟩ : BufTy).Contents (Elt F) :=
  broadcastInDim S4x1 ![0] bcast_S4_S4x1_0 (val_main_v33 (F := F) x0)
abbrev idx_main_v34 (i : S4x1.Idx) : S4.Idx := fun a => match a with
  | ⟨0, _⟩ => ⟨(i 0).val, (i 0).isLt⟩
theorem val_main_v34_apply (x0 : (⟨S4x19x512x1024, .f32⟩ : BufTy).Contents (Elt F)) (i : S4x1.Idx) :
    val_main_v34 (F := F) x0 i = val_main_v33 (F := F) x0 (idx_main_v34 i) := by
  unfold val_main_v34
  generalize val_main_v33 (F := F) x0 = y
  exact broadcastInDim_apply _ bcast_S4_S4x1_0 y i (idx_main_v34 i) (fun a => match a with
    | ⟨0, _⟩ => by show (i 0).val = if (4 : Nat) = 1 then 0 else (i 0).val; rw [if_neg (by decide)])

def val_main_cst_6 : (⟨S_, .f32⟩ : BufTy).Contents (Elt F) :=
  constant S_ .f32 0x3E4CCCCD#32
theorem val_main_cst_6_apply (i : S_.Idx) :
    val_main_cst_6 (F := F) i = FloatOps.ofBits .f32 0x3E4CCCCD#32 := rfl

def val_main_v35 : (⟨S4x19, .f32⟩ : BufTy).Contents (Elt F) :=
  broadcastInDim S4x19 ![] bcast_S_S4x19 (val_main_cst_6 (F := F))
abbrev idx_main_v35 (i : S4x19.Idx) : S_.Idx := fun a => a.elim0
theorem val_main_v35_apply (i : S4x19.Idx) :
    val_main_v35 (F := F) i = val_main_cst_6 (F := F) (idx_main_v35 i) := by
  unfold val_main_v35
  generalize val_main_cst_6 (F := F) = y
  exact broadcastInDim_apply _ bcast_S_S4x19 y i (idx_main_v35 i) (fun a => a.elim0)

def val_main_v36 (x0 : (⟨S4x19x512x1024, .f32⟩ : BufTy).Contents (Elt F)) : (⟨S4x19, .f32⟩ : BufTy).Contents (Elt F) :=
  Host.powf (val_main_v32 (F := F) x0) (val_main_v35 (F := F))
theorem val_main_v36_apply (x0 : (⟨S4x19x512x1024, .f32⟩ : BufTy).Contents (Elt F)) (i : S4x19.Idx) :
    val_main_v36 (F := F) x0 i = FloatOps.hostPowf (val_main_v32 (F := F) x0 i) (val_main_v35 (F := F) i) := rfl

def val_main_cst_7 : (⟨S_, .f32⟩ : BufTy).Contents (Elt F) :=
  constant S_ .f32 0x3F4CCCCD#32
theorem val_main_cst_7_apply (i : S_.Idx) :
    val_main_cst_7 (F := F) i = FloatOps.ofBits .f32 0x3F4CCCCD#32 := rfl

def val_main_v37 : (⟨S4x1, .f32⟩ : BufTy).Contents (Elt F) :=
  broadcastInDim S4x1 ![] bcast_S_S4x1 (val_main_cst_7 (F := F))
abbrev idx_main_v37 (i : S4x1.Idx) : S_.Idx := fun a => a.elim0
theorem val_main_v37_apply (i : S4x1.Idx) :
    val_main_v37 (F := F) i = val_main_cst_7 (F := F) (idx_main_v37 i) := by
  unfold val_main_v37
  generalize val_main_cst_7 (F := F) = y
  exact broadcastInDim_apply _ bcast_S_S4x1 y i (idx_main_v37 i) (fun a => a.elim0)

def val_main_v38 (x0 : (⟨S4x19x512x1024, .f32⟩ : BufTy).Contents (Elt F)) : (⟨S4x1, .f32⟩ : BufTy).Contents (Elt F) :=
  Host.powf (val_main_v34 (F := F) x0) (val_main_v37 (F := F))
theorem val_main_v38_apply (x0 : (⟨S4x19x512x1024, .f32⟩ : BufTy).Contents (Elt F)) (i : S4x1.Idx) :
    val_main_v38 (F := F) x0 i = FloatOps.hostPowf (val_main_v34 (F := F) x0 i) (val_main_v37 (F := F) i) := rfl

def val_main_v39 (x0 : (⟨S4x19x512x1024, .f32⟩ : BufTy).Contents (Elt F)) : (⟨S4x19, .f32⟩ : BufTy).Contents (Elt F) :=
  broadcastInDim S4x19 ![0, 1] bcast_S4x1_S4x19_0_1 (val_main_v38 (F := F) x0)
abbrev idx_main_v39 (i : S4x19.Idx) : S4x1.Idx := fun a => match a with
  | ⟨0, _⟩ => ⟨(i 0).val, (i 0).isLt⟩
  | ⟨1, _⟩ => ⟨0, Nat.one_pos⟩
theorem val_main_v39_apply (x0 : (⟨S4x19x512x1024, .f32⟩ : BufTy).Contents (Elt F)) (i : S4x19.Idx) :
    val_main_v39 (F := F) x0 i = val_main_v38 (F := F) x0 (idx_main_v39 i) := by
  unfold val_main_v39
  generalize val_main_v38 (F := F) x0 = y
  exact broadcastInDim_apply _ bcast_S4x1_S4x19_0_1 y i (idx_main_v39 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl])

def val_main_v40 (x0 : (⟨S4x19x512x1024, .f32⟩ : BufTy).Contents (Elt F)) : (⟨S4x19, .f32⟩ : BufTy).Contents (Elt F) :=
  mulf (val_main_v36 (F := F) x0) (val_main_v39 (F := F) x0)
theorem val_main_v40_apply (x0 : (⟨S4x19x512x1024, .f32⟩ : BufTy).Contents (Elt F)) (i : S4x19.Idx) :
    val_main_v40 (F := F) x0 i = FloatOps.mulf (val_main_v36 (F := F) x0 i) (val_main_v39 (F := F) x0 i) := rfl

def val_main_cst_8 : (⟨S_, .f32⟩ : BufTy).Contents (Elt F) :=
  constant S_ .f32 0x3F800000#32
theorem val_main_cst_8_apply (i : S_.Idx) :
    val_main_cst_8 (F := F) i = FloatOps.ofBits .f32 0x3F800000#32 := rfl

def val_main_v41 : (⟨S4x19, .f32⟩ : BufTy).Contents (Elt F) :=
  broadcastInDim S4x19 ![] bcast_S_S4x19 (val_main_cst_8 (F := F))
abbrev idx_main_v41 (i : S4x19.Idx) : S_.Idx := fun a => a.elim0
theorem val_main_v41_apply (i : S4x19.Idx) :
    val_main_v41 (F := F) i = val_main_cst_8 (F := F) (idx_main_v41 i) := by
  unfold val_main_v41
  generalize val_main_cst_8 (F := F) = y
  exact broadcastInDim_apply _ bcast_S_S4x19 y i (idx_main_v41 i) (fun a => a.elim0)

def val_main_v42 (x0 : (⟨S4x19x512x1024, .f32⟩ : BufTy).Contents (Elt F)) : (⟨S4x19, .f32⟩ : BufTy).Contents (Elt F) :=
  maximumf (val_main_v40 (F := F) x0) (val_main_v41 (F := F))
theorem val_main_v42_apply (x0 : (⟨S4x19x512x1024, .f32⟩ : BufTy).Contents (Elt F)) (i : S4x19.Idx) :
    val_main_v42 (F := F) x0 i = FloatOps.maximumf (val_main_v40 (F := F) x0 i) (val_main_v41 (F := F) i) := rfl

def val_main_cst_9 : (⟨S_, .f32⟩ : BufTy).Contents (Elt F) :=
  constant S_ .f32 0x3F800000#32
theorem val_main_cst_9_apply (i : S_.Idx) :
    val_main_cst_9 (F := F) i = FloatOps.ofBits .f32 0x3F800000#32 := rfl

def val_main_v43 : (⟨S4x19, .f32⟩ : BufTy).Contents (Elt F) :=
  broadcastInDim S4x19 ![] bcast_S_S4x19 (val_main_cst_9 (F := F))
abbrev idx_main_v43 (i : S4x19.Idx) : S_.Idx := fun a => a.elim0
theorem val_main_v43_apply (i : S4x19.Idx) :
    val_main_v43 (F := F) i = val_main_cst_9 (F := F) (idx_main_v43 i) := by
  unfold val_main_v43
  generalize val_main_cst_9 (F := F) = y
  exact broadcastInDim_apply _ bcast_S_S4x19 y i (idx_main_v43 i) (fun a => a.elim0)

def val_main_v44 (x0 : (⟨S4x19x512x1024, .f32⟩ : BufTy).Contents (Elt F)) : (⟨S4x19, .f32⟩ : BufTy).Contents (Elt F) :=
  Host.divf (val_main_v43 (F := F)) (val_main_v42 (F := F) x0)
theorem val_main_v44_apply (x0 : (⟨S4x19x512x1024, .f32⟩ : BufTy).Contents (Elt F)) (i : S4x19.Idx) :
    val_main_v44 (F := F) x0 i = FloatOps.hostDivf (val_main_v43 (F := F) i) (val_main_v42 (F := F) x0 i) := rfl

def val_main_v45 (x0 : (⟨S4x19x512x1024, .f32⟩ : BufTy).Contents (Elt F)) : (⟨S4x524288, .i32⟩ : BufTy).Contents (Elt F) :=
  shapeCast _ (val_main_v4 (F := F) x0) shapeCasts_S4x512x1024_S4x524288
set_option backward.proofsInPublic true in
abbrev idx_main_v45 (i : S4x524288.Idx) : S4x512x1024.Idx := fun a => match a with
  | ⟨0, _⟩ => ⟨((i 0).val * 524288 + (i 1).val) / 524288, by have h0 : (i 0).val < 4 := (i 0).isLt; have h1 : (i 1).val < 524288 := (i 1).isLt; show ((i 0).val * 524288 + (i 1).val) / 524288 < 4; omega⟩
  | ⟨1, _⟩ => ⟨((i 0).val * 524288 + (i 1).val) / 1024 % 512, by have h0 : (i 0).val < 4 := (i 0).isLt; have h1 : (i 1).val < 524288 := (i 1).isLt; show ((i 0).val * 524288 + (i 1).val) / 1024 % 512 < 512; omega⟩
  | ⟨2, _⟩ => ⟨((i 0).val * 524288 + (i 1).val) % 1024, by have h0 : (i 0).val < 4 := (i 0).isLt; have h1 : (i 1).val < 524288 := (i 1).isLt; show ((i 0).val * 524288 + (i 1).val) % 1024 < 1024; omega⟩
theorem val_main_v45_apply (x0 : (⟨S4x19x512x1024, .f32⟩ : BufTy).Contents (Elt F)) (i : S4x524288.Idx) :
    val_main_v45 (F := F) x0 i = val_main_v4 (F := F) x0 (idx_main_v45 i) := by
  unfold val_main_v45
  generalize val_main_v4 (F := F) x0 = y
  exact shapeCast_apply y shapeCasts_S4x512x1024_S4x524288 i (idx_main_v45 i)
    (by rewrite [Shape.rowMajor_val_three, Shape.rowMajor_val_two]; have h0 : (i 0).val < 4 := (i 0).isLt; have h1 : (i 1).val < 524288 := (i 1).isLt; show (((i 0).val * 524288 + (i 1).val) / 524288 * 512 + ((i 0).val * 524288 + (i 1).val) / 1024 % 512) * 1024 + ((i 0).val * 524288 + (i 1).val) % 1024 = (i 0).val * 524288 + (i 1).val; omega)

def val_main_call3_c : (⟨S_, .i32⟩ : BufTy).Contents (Elt F) :=
  constantI S_ 32 0#32
theorem val_main_call3_c_apply (i : S_.Idx) :
    val_main_call3_c (F := F) i = 0#32 := rfl

def val_main_call3_v0 : (⟨S4x524288, .i32⟩ : BufTy).Contents (Elt F) :=
  broadcastInDim S4x524288 ![] bcast_S_S4x524288 (val_main_call3_c (F := F))
abbrev idx_main_call3_v0 (i : S4x524288.Idx) : S_.Idx := fun a => a.elim0
theorem val_main_call3_v0_apply (i : S4x524288.Idx) :
    val_main_call3_v0 (F := F) i = val_main_call3_c (F := F) (idx_main_call3_v0 i) := by
  unfold val_main_call3_v0
  generalize val_main_call3_c (F := F) = y
  exact broadcastInDim_apply _ bcast_S_S4x524288 y i (idx_main_call3_v0 i) (fun a => a.elim0)

def val_main_call3_v1 (x0 : (⟨S4x19x512x1024, .f32⟩ : BufTy).Contents (Elt F)) : (⟨S4x524288, .i1⟩ : BufTy).Contents (Elt F) :=
  cmpi .slt (val_main_v45 (F := F) x0) (val_main_call3_v0 (F := F))
theorem val_main_call3_v1_apply (x0 : (⟨S4x19x512x1024, .f32⟩ : BufTy).Contents (Elt F)) (i : S4x524288.Idx) :
    val_main_call3_v1 (F := F) x0 i = IntOp.cmpi .slt (val_main_v45 (F := F) x0 i) (val_main_call3_v0 (F := F) i) := rfl

def val_main_call3_c_0 : (⟨S_, .i32⟩ : BufTy).Contents (Elt F) :=
  constantI S_ 32 19#32
theorem val_main_call3_c_0_apply (i : S_.Idx) :
    val_main_call3_c_0 (F := F) i = 19#32 := rfl

def val_main_call3_v2 : (⟨S4x524288, .i32⟩ : BufTy).Contents (Elt F) :=
  broadcastInDim S4x524288 ![] bcast_S_S4x524288 (val_main_call3_c_0 (F := F))
abbrev idx_main_call3_v2 (i : S4x524288.Idx) : S_.Idx := fun a => a.elim0
theorem val_main_call3_v2_apply (i : S4x524288.Idx) :
    val_main_call3_v2 (F := F) i = val_main_call3_c_0 (F := F) (idx_main_call3_v2 i) := by
  unfold val_main_call3_v2
  generalize val_main_call3_c_0 (F := F) = y
  exact broadcastInDim_apply _ bcast_S_S4x524288 y i (idx_main_call3_v2 i) (fun a => a.elim0)

def val_main_call3_v3 (x0 : (⟨S4x19x512x1024, .f32⟩ : BufTy).Contents (Elt F)) : (⟨S4x524288, .i32⟩ : BufTy).Contents (Elt F) :=
  addi (val_main_v45 (F := F) x0) (val_main_call3_v2 (F := F))
theorem val_main_call3_v3_apply (x0 : (⟨S4x19x512x1024, .f32⟩ : BufTy).Contents (Elt F)) (i : S4x524288.Idx) :
    val_main_call3_v3 (F := F) x0 i = IntOp.addi (val_main_v45 (F := F) x0 i) (val_main_call3_v2 (F := F) i) := rfl

def val_main_call3_v4 (x0 : (⟨S4x19x512x1024, .f32⟩ : BufTy).Contents (Elt F)) : (⟨S4x524288, .i32⟩ : BufTy).Contents (Elt F) :=
  select (val_main_call3_v1 (F := F) x0) (val_main_call3_v3 (F := F) x0) (val_main_v45 (F := F) x0)
theorem val_main_call3_v4_apply (x0 : (⟨S4x19x512x1024, .f32⟩ : BufTy).Contents (Elt F)) (i : S4x524288.Idx) :
    val_main_call3_v4 (F := F) x0 i = Scalar.select (val_main_call3_v1 (F := F) x0 i) (val_main_call3_v3 (F := F) x0 i) (val_main_v45 (F := F) x0 i) := rfl

def val_main_call3_v5 (x0 : (⟨S4x19x512x1024, .f32⟩ : BufTy).Contents (Elt F)) : (⟨S4x524288x1, .i32⟩ : BufTy).Contents (Elt F) :=
  shapeCast _ (val_main_call3_v4 (F := F) x0) shapeCasts_S4x524288_S4x524288x1
set_option backward.proofsInPublic true in
abbrev idx_main_call3_v5 (i : S4x524288x1.Idx) : S4x524288.Idx := fun a => match a with
  | ⟨0, _⟩ => ⟨(((i 0).val * 524288 + (i 1).val) * 1 + (i 2).val) / 524288, by have h0 : (i 0).val < 4 := (i 0).isLt; have h1 : (i 1).val < 524288 := (i 1).isLt; have h2 : (i 2).val < 1 := (i 2).isLt; show (((i 0).val * 524288 + (i 1).val) * 1 + (i 2).val) / 524288 < 4; omega⟩
  | ⟨1, _⟩ => ⟨(((i 0).val * 524288 + (i 1).val) * 1 + (i 2).val) % 524288, by have h0 : (i 0).val < 4 := (i 0).isLt; have h1 : (i 1).val < 524288 := (i 1).isLt; have h2 : (i 2).val < 1 := (i 2).isLt; show (((i 0).val * 524288 + (i 1).val) * 1 + (i 2).val) % 524288 < 524288; omega⟩
theorem val_main_call3_v5_apply (x0 : (⟨S4x19x512x1024, .f32⟩ : BufTy).Contents (Elt F)) (i : S4x524288x1.Idx) :
    val_main_call3_v5 (F := F) x0 i = val_main_call3_v4 (F := F) x0 (idx_main_call3_v5 i) := by
  unfold val_main_call3_v5
  generalize val_main_call3_v4 (F := F) x0 = y
  exact shapeCast_apply y shapeCasts_S4x524288_S4x524288x1 i (idx_main_call3_v5 i)
    (by rewrite [Shape.rowMajor_val_two, Shape.rowMajor_val_three]; have h0 : (i 0).val < 4 := (i 0).isLt; have h1 : (i 1).val < 524288 := (i 1).isLt; have h2 : (i 2).val < 1 := (i 2).isLt; show (((i 0).val * 524288 + (i 1).val) * 1 + (i 2).val) / 524288 * 524288 + (((i 0).val * 524288 + (i 1).val) * 1 + (i 2).val) % 524288 = ((i 0).val * 524288 + (i 1).val) * 1 + (i 2).val; omega)

def val_main_v46 (x0 : (⟨S4x19x512x1024, .f32⟩ : BufTy).Contents (Elt F)) : (⟨S4x524288, .f32⟩ : BufTy).Contents (Elt F) :=
  Host.gather gather_S4x19_S4x524288x1_S4x524288_n_1_0_0_1_2_11 (val_main_v44 (F := F) x0) (val_main_call3_v5 (F := F) x0)

def val_main_v47 (x0 : (⟨S4x19x512x1024, .f32⟩ : BufTy).Contents (Elt F)) : (⟨S4x512x1024, .f32⟩ : BufTy).Contents (Elt F) :=
  shapeCast _ (val_main_v46 (F := F) x0) shapeCasts_S4x524288_S4x512x1024
set_option backward.proofsInPublic true in
abbrev idx_main_v47 (i : S4x512x1024.Idx) : S4x524288.Idx := fun a => match a with
  | ⟨0, _⟩ => ⟨(((i 0).val * 512 + (i 1).val) * 1024 + (i 2).val) / 524288, by have h0 : (i 0).val < 4 := (i 0).isLt; have h1 : (i 1).val < 512 := (i 1).isLt; have h2 : (i 2).val < 1024 := (i 2).isLt; show (((i 0).val * 512 + (i 1).val) * 1024 + (i 2).val) / 524288 < 4; omega⟩
  | ⟨1, _⟩ => ⟨(((i 0).val * 512 + (i 1).val) * 1024 + (i 2).val) % 524288, by have h0 : (i 0).val < 4 := (i 0).isLt; have h1 : (i 1).val < 512 := (i 1).isLt; have h2 : (i 2).val < 1024 := (i 2).isLt; show (((i 0).val * 512 + (i 1).val) * 1024 + (i 2).val) % 524288 < 524288; omega⟩
theorem val_main_v47_apply (x0 : (⟨S4x19x512x1024, .f32⟩ : BufTy).Contents (Elt F)) (i : S4x512x1024.Idx) :
    val_main_v47 (F := F) x0 i = val_main_v46 (F := F) x0 (idx_main_v47 i) := by
  unfold val_main_v47
  generalize val_main_v46 (F := F) x0 = y
  exact shapeCast_apply y shapeCasts_S4x524288_S4x512x1024 i (idx_main_v47 i)
    (by rewrite [Shape.rowMajor_val_two, Shape.rowMajor_val_three]; have h0 : (i 0).val < 4 := (i 0).isLt; have h1 : (i 1).val < 512 := (i 1).isLt; have h2 : (i 2).val < 1024 := (i 2).isLt; show (((i 0).val * 512 + (i 1).val) * 1024 + (i 2).val) / 524288 * 524288 + (((i 0).val * 512 + (i 1).val) * 1024 + (i 2).val) % 524288 = ((i 0).val * 512 + (i 1).val) * 1024 + (i 2).val; omega)

def val_main_v48 (x0 : (⟨S4x19x512x1024, .f32⟩ : BufTy).Contents (Elt F)) : (⟨S4x1x512x1024, .i1⟩ : BufTy).Contents (Elt F) :=
  broadcastInDim S4x1x512x1024 ![0, 2, 3] bcast_S4x512x1024_S4x1x512x1024_0_2_3 (val_main_v3 (F := F) x0)
abbrev idx_main_v48 (i : S4x1x512x1024.Idx) : S4x512x1024.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v48_apply (x0 : (⟨S4x19x512x1024, .f32⟩ : BufTy).Contents (Elt F)) (i : S4x1x512x1024.Idx) :
    val_main_v48 (F := F) x0 i = val_main_v3 (F := F) x0 (idx_main_v48 i) := by
  unfold val_main_v48
  generalize val_main_v3 (F := F) x0 = y
  exact broadcastInDim_apply _ bcast_S4x512x1024_S4x1x512x1024_0_2_3 y i (idx_main_v48 i) (fun a => match a with
    | ⟨0, _⟩ => by show (i 0).val = if (4 : Nat) = 1 then 0 else (i 0).val; rw [if_neg (by decide)]
    | ⟨1, _⟩ => by show (i 2).val = if (512 : Nat) = 1 then 0 else (i 2).val; rw [if_neg (by decide)]
    | ⟨2, _⟩ => by show (i 3).val = if (1024 : Nat) = 1 then 0 else (i 3).val; rw [if_neg (by decide)])

def val_main_v49 (x0 : (⟨S4x19x512x1024, .f32⟩ : BufTy).Contents (Elt F)) : (⟨S4x19x512x1024, .f32⟩ : BufTy).Contents (Elt F) :=
  mulf (x0) (x0)
theorem val_main_v49_apply (x0 : (⟨S4x19x512x1024, .f32⟩ : BufTy).Contents (Elt F)) (i : S4x19x512x1024.Idx) :
    val_main_v49 (F := F) x0 i = FloatOps.mulf (x0 i) (x0 i) := rfl

def val_main_v50 (x0 : (⟨S4x19x512x1024, .f32⟩ : BufTy).Contents (Elt F)) : (⟨S4x1x512x1024, .f32⟩ : BufTy).Contents (Elt F) :=
  broadcastInDim S4x1x512x1024 ![0, 2, 3] bcast_S4x512x1024_S4x1x512x1024_0_2_3 (val_main_v47 (F := F) x0)
abbrev idx_main_v50 (i : S4x1x512x1024.Idx) : S4x512x1024.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v50_apply (x0 : (⟨S4x19x512x1024, .f32⟩ : BufTy).Contents (Elt F)) (i : S4x1x512x1024.Idx) :
    val_main_v50 (F := F) x0 i = val_main_v47 (F := F) x0 (idx_main_v50 i) := by
  unfold val_main_v50
  generalize val_main_v47 (F := F) x0 = y
  exact broadcastInDim_apply _ bcast_S4x512x1024_S4x1x512x1024_0_2_3 y i (idx_main_v50 i) (fun a => match a with
    | ⟨0, _⟩ => by show (i 0).val = if (4 : Nat) = 1 then 0 else (i 0).val; rw [if_neg (by decide)]
    | ⟨1, _⟩ => by show (i 2).val = if (512 : Nat) = 1 then 0 else (i 2).val; rw [if_neg (by decide)]
    | ⟨2, _⟩ => by show (i 3).val = if (1024 : Nat) = 1 then 0 else (i 3).val; rw [if_neg (by decide)])

def val_main_v51 (x0 : (⟨S4x19x512x1024, .f32⟩ : BufTy).Contents (Elt F)) : (⟨S4x19x512x1024, .f32⟩ : BufTy).Contents (Elt F) :=
  broadcastInDim S4x19x512x1024 ![0, 1, 2, 3] bcast_S4x1x512x1024_S4x19x512x1024_0_1_2_3 (val_main_v50 (F := F) x0)
abbrev idx_main_v51 (i : S4x19x512x1024.Idx) : S4x1x512x1024.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v51_apply (x0 : (⟨S4x19x512x1024, .f32⟩ : BufTy).Contents (Elt F)) (i : S4x19x512x1024.Idx) :
    val_main_v51 (F := F) x0 i = val_main_v50 (F := F) x0 (idx_main_v51 i) := by
  unfold val_main_v51
  generalize val_main_v50 (F := F) x0 = y
  exact broadcastInDim_apply _ bcast_S4x1x512x1024_S4x19x512x1024_0_1_2_3 y i (idx_main_v51 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (1024 : Nat) = 1 then 0 else (i 3).val; rw [if_neg (by decide)])

def val_main_v52 (x0 : (⟨S4x19x512x1024, .f32⟩ : BufTy).Contents (Elt F)) : (⟨S4x19x512x1024, .f32⟩ : BufTy).Contents (Elt F) :=
  mulf (val_main_v49 (F := F) x0) (val_main_v51 (F := F) x0)
theorem val_main_v52_apply (x0 : (⟨S4x19x512x1024, .f32⟩ : BufTy).Contents (Elt F)) (i : S4x19x512x1024.Idx) :
    val_main_v52 (F := F) x0 i = FloatOps.mulf (val_main_v49 (F := F) x0 i) (val_main_v51 (F := F) x0 i) := rfl

def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

def val_main_call4_v0 : (⟨S_, .f32⟩ : BufTy).Contents (Elt F) :=
  id (val_main_cst_10 (F := F))
theorem val_main_call4_v0_apply (i : S_.Idx) :
    val_main_call4_v0 (F := F) i = (val_main_cst_10 (F := F) i) := rfl

def val_main_call4_v1 (x0 : (⟨S4x19x512x1024, .f32⟩ : BufTy).Contents (Elt F)) : (⟨S4x19x512x1024, .i1⟩ : BufTy).Contents (Elt F) :=
  broadcastInDim S4x19x512x1024 ![0, 1, 2, 3] bcast_S4x1x512x1024_S4x19x512x1024_0_1_2_3 (val_main_v48 (F := F) x0)
abbrev idx_main_call4_v1 (i : S4x19x512x1024.Idx) : S4x1x512x1024.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_call4_v1_apply (x0 : (⟨S4x19x512x1024, .f32⟩ : BufTy).Contents (Elt F)) (i : S4x19x512x1024.Idx) :
    val_main_call4_v1 (F := F) x0 i = val_main_v48 (F := F) x0 (idx_main_call4_v1 i) := by
  unfold val_main_call4_v1
  generalize val_main_v48 (F := F) x0 = y
  exact broadcastInDim_apply _ bcast_S4x1x512x1024_S4x19x512x1024_0_1_2_3 y i (idx_main_call4_v1 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (1024 : Nat) = 1 then 0 else (i 3).val; rw [if_neg (by decide)])

def val_main_call4_v2 : (⟨S4x19x512x1024, .f32⟩ : BufTy).Contents (Elt F) :=
  broadcastInDim S4x19x512x1024 ![] bcast_S_S4x19x512x1024 (val_main_call4_v0 (F := F))
abbrev idx_main_call4_v2 (i : S4x19x512x1024.Idx) : S_.Idx := fun a => a.elim0
theorem val_main_call4_v2_apply (i : S4x19x512x1024.Idx) :
    val_main_call4_v2 (F := F) i = val_main_call4_v0 (F := F) (idx_main_call4_v2 i) := by
  unfold val_main_call4_v2
  generalize val_main_call4_v0 (F := F) = y
  exact broadcastInDim_apply _ bcast_S_S4x19x512x1024 y i (idx_main_call4_v2 i) (fun a => a.elim0)

def val_main_v53 (x0 : (⟨S4x19x512x1024, .f32⟩ : BufTy).Contents (Elt F)) : (⟨S4x19x512x1024, .f32⟩ : BufTy).Contents (Elt F) :=
  select (val_main_call4_v1 (F := F) x0) (val_main_v52 (F := F) x0) (val_main_call4_v2 (F := F))
theorem val_main_v53_apply (x0 : (⟨S4x19x512x1024, .f32⟩ : BufTy).Contents (Elt F)) (i : S4x19x512x1024.Idx) :
    val_main_v53 (F := F) x0 i = Scalar.select (val_main_call4_v1 (F := F) x0 i) (val_main_v52 (F := F) x0 i) (val_main_call4_v2 (F := F) i) := rfl

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_v54 (x0 : (⟨S4x19x512x1024, .f32⟩ : BufTy).Contents (Elt F)) : (⟨S_, .f32⟩ : BufTy).Contents (Elt F) :=
  Host.reduceAdd (val_main_v53 (F := F) x0) (val_main_cst_11 (F := F)) reducesTo_S4x19x512x1024_S_d0_1_2_3 h_S_
/-- Stated at `F := Ideal`, where the host's float sum is this sum; at a bit-exact instance it is an opaque function of its operand. -/
theorem val_main_v54_apply (x0 : (⟨S4x19x512x1024, .f32⟩ : BufTy).Contents (Elt Ideal)) (i : S_.Idx) :
    val_main_v54 (F := Ideal) x0 i = (val_main_cst_11 (F := Ideal)) (Shape.Idx.first h_S_) + ∑ j : S4x19x512x1024.Idx, (val_main_v53 (F := Ideal) x0) j := by
  unfold val_main_v54
  generalize val_main_v53 (F := Ideal) x0 = y0
  simp only [Host.reduceAdd, Ideal.hostReduceAdd_def]
  exact Ideal.hostReduceAdd_total reducesTo_S4x19x512x1024_S_d0_1_2_3 (fun b => b.elim0) y0 _ i

def val_main_v55 (x0 : (⟨S4x19x512x1024, .f32⟩ : BufTy).Contents (Elt F)) : (⟨S_, .f32⟩ : BufTy).Contents (Elt F) :=
  Host.negf (val_main_v54 (F := F) x0)
theorem val_main_v55_apply (x0 : (⟨S4x19x512x1024, .f32⟩ : BufTy).Contents (Elt F)) (i : S_.Idx) :
    val_main_v55 (F := F) x0 i = FloatOps.hostNegf (val_main_v54 (F := F) x0 i) := rfl

def val_main_cst_12 : (⟨S_, .f32⟩ : BufTy).Contents (Elt F) :=
  constant S_ .f32 0x42980000#32
theorem val_main_cst_12_apply (i : S_.Idx) :
    val_main_cst_12 (F := F) i = FloatOps.ofBits .f32 0x42980000#32 := rfl

def val_main_v56 (x0 : (⟨S4x19x512x1024, .f32⟩ : BufTy).Contents (Elt F)) : (⟨S_, .f32⟩ : BufTy).Contents (Elt F) :=
  Host.divf (val_main_v55 (F := F) x0) (val_main_cst_12 (F := F))
theorem val_main_v56_apply (x0 : (⟨S4x19x512x1024, .f32⟩ : BufTy).Contents (Elt F)) (i : S_.Idx) :
    val_main_v56 (F := F) x0 i = FloatOps.hostDivf (val_main_v55 (F := F) x0 i) (val_main_cst_12 (F := F) i) := rfl

/-- The term the run names `res_main_v56` is the stage. -/
theorem val_main_v56_eq (m : (ℓ : Loc nD τ sig) → Buf (Elt F) ℓ) (c : Dev nD) :
    Cert.RefRun.res_main_v56 m c = val_main_v56 (F := F) (m ((c.tc : Thread nD τ).loc main_arg0)) := by
  unfold Cert.RefRun.res_main_v56; rfl

end Cert.RefRead

end
-- ==== Proof.Pixels.lean ====
module

public import proofs.«01_k».proof.Pre_unique_max
public import proofs.«01_k».proof.Proof.Gen.Pre_unique_max
public import Idealize.ShloMosaic.Lib.Pointwise
public import Idealize.ShloMosaic.Lib.ReduceAll

/-! What the precondition says of the probabilities: every one is a real number, every pixel has one class whose
probability is above the others', and that probability is not -1. -/

set_option maxRecDepth 16384

@[expose] public section

noncomputable section

namespace Cert.Pixels

open Idealize.ShloMosaic

/-- The shape of the probabilities: image, class, row, column. -/
abbrev Box : Shape := ⟨4, ![4, 19, 512, 1024]⟩

/-- The probabilities as real numbers, with the class of each pixel. -/
structure Data (x : Box.Idx → EReal) where
  /-- the probability as a real number -/
  p : Fin 4 → Fin 19 → Fin 512 → Fin 1024 → ℝ
  /-- the class of a pixel -/
  cls : Fin 4 → Fin 512 → Fin 1024 → Fin 19
  eq_p : ∀ n c h w, x (ix4 n c h w) = ((p n c h w : ℝ) : EReal)
  lt_top : ∀ n c h w, c ≠ cls n h w → p n c h w < p n (cls n h w) h w
  ne_ignored : ∀ n h w, p n (cls n h w) h w ≠ -1

/-- The word 0xFF800000 is minus infinity. -/
theorem ofBits_neg_inf : Ideal.ofBits .f32 0xFF800000#32 = ⊥ := by
  simp [Ideal.ofBits, Ideal.ieee]

/-- The word 0x7F800000 is plus infinity. -/
theorem ofBits_inf : Ideal.ofBits .f32 0x7F800000#32 = ⊤ := by
  simp [Ideal.ofBits, Ideal.ieee]

/-- The word 0xBF800000 is -1. -/
theorem ofBits_neg_one : Ideal.ofBits .f32 0xBF800000#32 = ((-1 : ℝ) : EReal) := by
  simp [Ideal.ofBits, Ideal.ieee, -EReal.coe_mul]; norm_num

/-- A finite sum of reals, read in the extended reals. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- A one-bit word made of a decision is 1 exactly when the decision is yes. -/
theorem ofBool_eq_one (b : Bool) : BitVec.ofBool b = 1#1 ↔ b = true := by
  cases b <;> decide

/-- A bit widened to a word and read as a float is 1 or 0. -/
theorem sitofp_bit (b : Bool) :
    (FloatOps.sitofp .f32 (BitVec.setWidth 32 (BitVec.ofBool b)) : Ideal .f32) = if b = true then (1 : EReal) else 0 := by
  show (((BitVec.setWidth 32 (BitVec.ofBool b)).toInt : ℝ) : EReal) = _
  cases b <;> simp

/-- A maximum over the classes, started at minus infinity, is the value of the class that is above the others. -/
theorem fold_max_eq (f : Fin 19 → EReal) (k : Fin 19) (h : ∀ c, f c ≤ f k) :
    (Finset.univ : Finset (Fin 19)).fold max ⊥ f = f k := by
  apply le_antisymm
  · rw [Finset.fold_max_le]; exact ⟨bot_le, fun c _ => h c⟩
  · rw [Finset.le_fold_max]; exact Or.inr ⟨k, Finset.mem_univ _, le_rfl⟩

/-- An array with no axes has one index. -/
theorem sub0 : Subsingleton (⟨0, ![]⟩ : Shape).Idx := ⟨fun a b => by funext i; exact i.elim0⟩

/-- A value of the pixels against -1, through the axes that the comparison adds. -/
theorem read_ne (v : FVec Ideal ⟨3, ![4, 512, 1024]⟩ .f32) (n : Fin 4) (h : Fin 512) (w : Fin 1024)
    (e : cmpf .une (broadcastInDim ⟨4, ![4, 1, 512, 1024]⟩ ![0, 2, 3]
        Cert.Pre_unique_max.Facts.bcast_S4x512x1024_S4x1x512x1024_0_2_3 v)
      (broadcastInDim ⟨4, ![4, 1, 512, 1024]⟩ ![] Cert.Pre_unique_max.Facts.bcast_S_S4x1x512x1024
        (constant (F := Ideal) ⟨0, ![]⟩ .f32 0xBF800000#32)) (ix4 n 0 h w) = 1#1) :
    v (ix3 n h w) ≠ ((-1 : ℝ) : EReal) := by
  rw [← ofBits_neg_one]
  pointwise at e
  rwa [ofBool_eq_one, decide_eq_true_iff] at e

/-- The three conditions of the precondition, at one pixel and one class. -/
theorem read_pre (x : Box.Idx → EReal) (hp : Cert.Pre_unique_max.fn (F := Ideal) x = fun _ => 1#1)
    (n : Fin 4) (c : Fin 19) (h : Fin 512) (w : Fin 1024) :
    (∑ k : Fin 19, (if x (ix4 n k h w) = Finset.univ.fold max ⊥ (fun k => x (ix4 n k h w)) then (1 : EReal) else 0)) = 1
    ∧ Finset.univ.fold max ⊥ (fun k => x (ix4 n k h w)) ≠ ((-1 : ℝ) : EReal)
    ∧ max (x (ix4 n c h w)) (-x (ix4 n c h w)) < ⊤ := by
  have sub := sub0
  have e := congrFun hp ix0
  simp only [Cert.Pre_unique_max.fn, Cert.Pre_unique_max.fn_part1] at e
  have split : ∀ a b : IVec ⟨0, ![]⟩ 1, andi a b ix0 = 1#1 → a ix0 = 1#1 ∧ b ix0 = 1#1 :=
    fun a b h => IntOp.andi_eq_one.1 h
  obtain ⟨e', e3⟩ := split _ _ e
  obtain ⟨e1, e2⟩ := split _ _ e'
  have f1 := Host.reduce_andi_all _ _ _ _ _ e1 (ix3 n h w)
  have f2 := read_ne _ n h w (Host.reduce_andi_all _ _ _ _ _ e2 (ix4 n 0 h w))
  have f3 := Host.reduce_andi_all _ _ _ _ _ e3 (ix4 n c h w)
  clear e e' e1 e2 e3 split
  pointwise at f1
  pointwise at f2
  pointwise at f3
  rw [ofBool_eq_one, decide_eq_true_iff] at f1 f3
  rw [ofBits_neg_inf] at f1 f2
  rw [ofBits_inf, Ideal.absf_def] at f3
  simp only [sitofp_bit, decide_eq_true_eq] at f1
  refine ⟨(Finset.sum_congr rfl fun k _ => ?_).trans f1, f2, f3⟩
  by_cases hk : x (ix4 n k h w) = Finset.univ.fold max ⊥ (fun k => x (ix4 n k h w))
  · rw [if_pos hk]
  · rw [if_neg hk]

/-- The probabilities of an input that meets the precondition, read as real numbers. -/
theorem data_of_pre (x : Box.Idx → EReal)
    (hp : Cert.Pre_unique_max.fn (F := Ideal) x = fun _ => 1#1) : Nonempty (Data x) := by
  have fin : ∀ n c h w, ∃ r : ℝ, x (ix4 n c h w) = (r : EReal) := by
    intro n c h w
    have h3 := (read_pre x hp n c h w).2.2
    rw [max_lt_iff] at h3
    refine ⟨(x (ix4 n c h w)).toReal, (EReal.coe_toReal h3.1.ne ?_).symm⟩
    intro hb
    rw [hb] at h3
    simp at h3
  choose p hpp using fin
  have top : ∀ n h w, ∃ k : Fin 19, (∀ c, c ≠ k → p n c h w < p n k h w) ∧ p n k h w ≠ -1 := by
    intro n h w
    obtain ⟨h1, h2, -⟩ := read_pre x hp n 0 h w
    obtain ⟨k, -, hk⟩ := Finset.exists_max_image Finset.univ (fun c => p n c h w) ⟨0, Finset.mem_univ _⟩
    have hf : (Finset.univ : Finset (Fin 19)).fold max ⊥ (fun k => x (ix4 n k h w)) = ((p n k h w : ℝ) : EReal) := by
      rw [fold_max_eq _ k, hpp]
      intro c
      rw [hpp, hpp]
      exact EReal.coe_le_coe_iff.2 (hk c (Finset.mem_univ _))
    rw [hf] at h1 h2
    refine ⟨k, fun c hc => lt_of_le_of_ne (hk c (Finset.mem_univ _)) fun he => ?_, fun he => h2 (by rw [he])⟩
    have two : ((2 : ℕ) : EReal) ≤ 1 := by
      rw [← h1, Finset.sum_ite, Finset.sum_const_zero, add_zero, Finset.sum_const, nsmul_one]
      have : ({c, k} : Finset (Fin 19)) ⊆ Finset.univ.filter fun k' => x (ix4 n k' h w) = ((p n k h w : ℝ) : EReal) := by
        intro y hy
        rw [Finset.mem_insert, Finset.mem_singleton] at hy
        rw [Finset.mem_filter, hpp]
        rcases hy with rfl | rfl
        · exact ⟨Finset.mem_univ _, by rw [he]⟩
        · exact ⟨Finset.mem_univ _, rfl⟩
      have := Finset.card_le_card this
      rw [Finset.card_pair hc] at this
      exact_mod_cast this
    have : (2 : ℕ) ≤ 1 := by exact_mod_cast two
    omega
  choose cls hc hn using top
  exact ⟨⟨p, cls, hpp, fun n c h w => hc n h w c, hn⟩⟩

/-- The maximum over the classes, at a pixel, is the probability of the pixel's class. -/
theorem Data.fold_eq {x : Box.Idx → EReal} (d : Data x) (n : Fin 4) (h : Fin 512) (w : Fin 1024) :
    (Finset.univ : Finset (Fin 19)).fold max ⊥ (fun k => x (ix4 n k h w)) = ((d.p n (d.cls n h w) h w : ℝ) : EReal) := by
  rw [fold_max_eq _ (d.cls n h w), d.eq_p]
  intro c
  rw [d.eq_p, d.eq_p, EReal.coe_le_coe_iff]
  rcases eq_or_ne c (d.cls n h w) with e | e
  · rw [e]
  · exact (d.lt_top n c h w e).le

/-- A class has the top probability exactly when it is the pixel's class. -/
theorem Data.eq_top_iff {x : Box.Idx → EReal} (d : Data x) (n : Fin 4) (c : Fin 19) (h : Fin 512) (w : Fin 1024) :
    x (ix4 n c h w) = ((d.p n (d.cls n h w) h w : ℝ) : EReal) ↔ d.cls n h w = c := by
  rw [d.eq_p, EReal.coe_eq_coe_iff]
  constructor
  · intro e
    by_contra hne
    exact (d.lt_top n c h w (Ne.symm hne)).ne e
  · rintro rfl; rfl

end Cert.Pixels
-- ==== Proof.RefLabel.lean ====
/- The reference's label of a pixel: the position of the largest probability, which is the pixel's class. -/
module

public import proofs.«01_k».proof.Proof.RefRead
public import proofs.«01_k».proof.Proof.Pixels
public import Idealize.ShloMosaic.Lib.Pointwise

@[expose] public section

set_option maxRecDepth 16384

noncomputable section

namespace Cert.RefLabel

open Cert.ReferenceIdeal Cert.RefRead Idealize.ShloMosaic Cert.Pixels

/-- One step of the search for the largest: of a pair that is `(M, I)` or below `M` and another such pair, the one kept is
    `(M, I)` if either is, and below `M` otherwise. -/
theorem step (M : EReal) (I : BitVec 32) (a b : EReal × BitVec 32) (ha : a = (M, I) ∨ a.1 < M) (hb : b = (M, I) ∨ b.1 < M) :
    ((a = (M, I) ∨ b = (M, I)) → reducer_argmax_f32_i32 (F := Ideal) a b = (M, I))
      ∧ (reducer_argmax_f32_i32 (F := Ideal) a b = (M, I) ∨ (reducer_argmax_f32_i32 (F := Ideal) a b).1 < M) := by
  obtain ⟨a1, a2⟩ := a
  obtain ⟨b1, b2⟩ := b
  have key : reducer_argmax_f32_i32 (F := Ideal) (a1, a2) (b1, b2)
      = (if b1 < a1 then a1 else b1, if b1 < a1 ∨ (a1 = b1 ∧ a2.slt b2 = true) then a2 else b2) := by
    unfold reducer_argmax_f32_i32
    simp only [Ideal.cmpf_def, Ideal.cmp, IntOp.cmpi, IntOp.ori, IntOp.andi, Scalar.select]
    by_cases h1 : b1 < a1 <;> by_cases h2 : a1 = b1 <;> by_cases h3 : a2.slt b2 = true <;> simp [h1, h2, h3]
  rw [key]
  simp only [Prod.mk.injEq] at ha hb ⊢
  rcases ha with ⟨rfl, rfl⟩ | ha <;> rcases hb with ⟨hb1, hb2⟩ | hb
  · subst hb1; subst hb2; simp
  · simp [hb]
  · subst hb1; subst hb2
    simp [ha.ne, not_lt.2 ha.le]
  · constructor
    · rintro (⟨h, -⟩ | ⟨h, -⟩)
      · exact absurd h ha.ne
      · exact absurd h hb.ne
    · right
      by_cases h1 : b1 < a1
      · rw [if_pos h1]; exact ha
      · rw [if_neg h1]; exact hb

/-- The search over a list whose pairs are each `(M, I)` or below `M` ends with `(M, I)` when the list has it. -/
theorem search (M : EReal) (I : BitVec 32) (l : List (EReal × BitVec 32)) (hl : ∀ q ∈ l, q = (M, I) ∨ q.1 < M)
    (a : EReal × BitVec 32) (ha : a = (M, I) ∨ a.1 < M) (hm : a = (M, I) ∨ (M, I) ∈ l) :
    l.foldl (reducer_argmax_f32_i32 (F := Ideal)) a = (M, I) := by
  induction l generalizing a with
  | nil =>
    rcases hm with h | h
    · exact h
    · exact absurd h List.not_mem_nil
  | cons b l ih =>
    have s := step M I a b ha (hl b List.mem_cons_self)
    refine ih (fun q hq => hl q (List.mem_cons_of_mem _ hq)) _ s.2 ?_
    rcases hm with h | h
    · exact Or.inl (s.1 (Or.inl h))
    · rcases List.mem_cons.1 h with h | h
      · exact Or.inl (s.1 (Or.inr h.symm))
      · exact Or.inr h

/-- The index of a class's probability at a pixel. -/
theorem lift_ix (r : S4x19x512x1024.Reduces [1] S4x512x1024) (n : Fin 4) (h : Fin 512) (w : Fin 1024) (k : Fin 19) :
    r.lift (ix3 n h w) k = (ix4 n k h w : S4x19x512x1024.Idx) := by
  funext a
  match a with
  | ⟨0, _⟩ => rfl
  | ⟨1, _⟩ => rfl
  | ⟨2, _⟩ => rfl
  | ⟨3, _⟩ => rfl

/-- An index that drops to a pixel is that of a class's probability at the pixel. -/
theorem of_drop (r : S4x19x512x1024.Reduces [1] S4x512x1024) (n : Fin 4) (h : Fin 512) (w : Fin 1024) (i : S4x19x512x1024.Idx)
    (hd : r.drop i = ix3 n h w) : ∃ k : Fin 19, i = ix4 n k h w :=
  ⟨i 1, ((r.lift_drop i).symm.trans (congrArg (fun j => r.lift j (i 1)) hd)).trans (lift_ix r n h w (i 1))⟩

variable {x : Box.Idx → EReal} (d : Data x) (n : Fin 4) (h : Fin 512) (w : Fin 1024)

/-- The largest probability of a pixel. -/
theorem v0_val : val_main_v0 (F := Ideal) x (ix3 n h w) = ((d.p n (d.cls n h w) h w : ℝ) : EReal) := by
  rw [← d.fold_eq, ← ofBits_neg_inf]
  pointwise [val_main_v0, val_main_cst]

/-- What the search for the largest probability of a pixel runs over. -/
theorem mem_fiber (y : S4x19x512x1024.Idx → BitVec 32) (q : EReal × BitVec 32) :
    q ∈ Host.argReduceFiber x y Gen.reducesTo_S4x19x512x1024_S4x512x1024_d1 (ix3 n h w : S4x512x1024.Idx)
      ↔ ∃ k : Fin 19, q = (x (ix4 n k h w), y (ix4 n k h w)) := by
  have r : S4x19x512x1024.Reduces [1] S4x512x1024 := by decide
  unfold Host.argReduceFiber
  simp only [List.mem_map, List.mem_filter, decide_eq_true_eq, Shape.ReducesTo.drop_eq_drop _ r, List.mem_finRange, true_and]
  constructor
  · rintro ⟨i, hi, rfl⟩
    obtain ⟨k, hk⟩ := of_drop r n h w _ hi
    exact ⟨k, by rw [hk]⟩
  · rintro ⟨k, rfl⟩
    refine ⟨S4x19x512x1024.rowMajor (ix4 n k h w), ?_, ?_⟩
    · rw [Equiv.symm_apply_apply, ← lift_ix r]
      exact r.drop_lift _ _
    · rw [Equiv.symm_apply_apply]

/-- The search from any start below the pixel's largest probability. -/
theorem search_val (y : S4x19x512x1024.Idx → BitVec 32) (hy : ∀ k : Fin 19, y (ix4 n k h w) = BitVec.ofNat 32 k.val)
    (a : EReal × BitVec 32) (ha : a.1 = ⊥) :
    (Host.argReduceFiber x y Gen.reducesTo_S4x19x512x1024_S4x512x1024_d1 (ix3 n h w : S4x512x1024.Idx)).foldl
      (reducer_argmax_f32_i32 (F := Ideal)) a
        = (((d.p n (d.cls n h w) h w : ℝ) : EReal), BitVec.ofNat 32 (d.cls n h w).val) := by
  refine search _ _ _ (fun q hq => ?_) _ (Or.inr ?_) (Or.inr ?_)
  · obtain ⟨k, rfl⟩ := (mem_fiber n h w _ q).1 hq
    rw [d.eq_p, hy]
    by_cases hk : k = d.cls n h w
    · left; rw [hk]
    · right
      exact EReal.coe_lt_coe_iff.2 (d.lt_top n k h w hk)
  · rw [ha]; exact EReal.bot_lt_coe _
  · refine (mem_fiber n h w _ _).2 ⟨d.cls n h w, ?_⟩
    rw [d.eq_p, hy]

/-- The position that the search finds. -/
theorem argmax_val (y : S4x19x512x1024.Idx → BitVec 32) (hy : ∀ k : Fin 19, y (ix4 n k h w) = BitVec.ofNat 32 k.val)
    (c : S_.Idx → EReal) (hc : ∀ i, c i = ⊥) (z : S_.Idx → BitVec 32) :
    (Host.argReduce (φ := .f32) (reducer_argmax_f32_i32 (F := Ideal)) x y c z Gen.reducesTo_S4x19x512x1024_S4x512x1024_d1
      Gen.h_S_ (ix3 n h w : S4x512x1024.Idx)).2 = BitVec.ofNat 32 (d.cls n h w).val := by
  rw [Ideal.argReduce_eq_reduce2, Host.reduce2_eq_foldl_fiber, search_val d n h w y hy _ (hc _)]

omit d n h w in
/-- The positions, as the search finds them. -/
theorem v1_fun : val_main_v1 (F := Ideal) x = fun j => (Host.argReduce (φ := .f32) (reducer_argmax_f32_i32 (F := Ideal)) x
    (val_main_call0_v0 (F := Ideal)) (val_main_call0_cst (F := Ideal)) (val_main_call0_c (F := Ideal))
    Gen.reducesTo_S4x19x512x1024_S4x512x1024_d1 Gen.h_S_ j).2 := rfl

/-- The position of the largest probability of a pixel. -/
theorem v1_val : val_main_v1 (F := Ideal) x (ix3 n h w) = BitVec.ofNat 32 (d.cls n h w).val :=
  (congrFun v1_fun (ix3 n h w)).trans (argmax_val d n h w (val_main_call0_v0 (F := Ideal)) (fun k => val_main_call0_v0_apply _)
    (val_main_call0_cst (F := Ideal)) (fun i => (val_main_call0_cst_apply i).trans ofBits_neg_inf) (val_main_call0_c (F := Ideal)))

omit d n h w in
/-- The comparison for being different, of values that are. -/
theorem une_bit (a b : EReal) (hab : a ≠ b) : FloatOps.cmpf (F := Ideal) (φ := .f32) .une a b = 1#1 := by
  rw [Ideal.cmpf_def]
  unfold Ideal.cmp
  rw [ofBool_eq_one, decide_eq_true_iff]
  exact hab

include d in
/-- No pixel is ignored. -/
theorem v3_val : val_main_v3 (F := Ideal) x (ix3 n h w) = 1#1 := by
  rw [val_main_v3_apply, v0_val d]
  refine une_bit _ _ ?_
  rw [val_main_v2_apply, val_main_cst_0_apply]
  intro e
  exact d.ne_ignored n h w (EReal.coe_injective (e.trans ofBits_neg_one))

/-- The label of a pixel. -/
theorem v4_val : val_main_v4 (F := Ideal) x (ix3 n h w) = BitVec.ofNat 32 (d.cls n h w).val := by
  rw [val_main_v4_apply, v3_val d, v1_val d]
  exact if_pos rfl

end Cert.RefLabel

end
-- ==== Proof.Weight.lean ====
/- A class's weight as a real number, and the words of the constants that it is made of. -/
module

public import proofs.«01_k».proof.Proof.Pixels
public import Idealize.ShloMosaic.Lib.Pipeline.ValueKit

@[expose] public section

set_option maxRecDepth 16384

noncomputable section

namespace Cert.Weight

open Idealize.ShloMosaic

/-- The exponent of a class's count: the float nearest to 0.2. -/
def alpha : ℝ := 13421773 / 67108864

/-- The exponent of the number of pixels: the float nearest to 0.8. -/
def beta : ℝ := 13421773 / 16777216

/-- The weight of a class with `h` of an image's `t` pixels. -/
def weight (h t : ℝ) : ℝ := 1 / max (Real.rpow h alpha * Real.rpow t beta) 1

/-- The float word of 0.2 is the real `alpha`. -/
theorem alpha_word : Ideal.ofBits .f32 0x3E4CCCCD#32 = ((alpha : ℝ) : EReal) := by
  simp [Ideal.ofBits, Ideal.ieee, -EReal.coe_mul, alpha]; norm_num

/-- The float word of 0.8 is the real `beta`. -/
theorem beta_word : Ideal.ofBits .f32 0x3F4CCCCD#32 = ((beta : ℝ) : EReal) := by
  simp [Ideal.ofBits, Ideal.ieee, -EReal.coe_mul, beta]; norm_num

/-- The exponent of a class's count is not zero, so an absent class has power zero. -/
theorem alpha_ne : alpha ≠ 0 := by unfold alpha; norm_num

/-- The maximum of two reals, read in the extended reals. -/
theorem coe_max (a b : ℝ) : ((max a b : ℝ) : EReal) = max (a : EReal) (b : EReal) :=
  EReal.coe_strictMono.monotone.map_max

/-- A denominator bounded below by 1 is positive. -/
theorem one_le_den (a : ℝ) : 0 < max a 1 := lt_of_lt_of_le one_pos (le_max_right _ _)

end Cert.Weight

end
-- ==== Proof.Loss.lean ====
/- The loss as one real number, which the kernel and the reference both end with. -/
module

public import proofs.«01_k».proof.Proof.Weight

@[expose] public section

set_option maxRecDepth 16384

noncomputable section

namespace Cert.Loss

open Idealize.ShloMosaic Cert.Pixels Cert.Weight

variable {X : Box.Idx → EReal}

/-- The sum of the squares of a pixel's probabilities. -/
def sq (d : Data X) (n : Fin 4) (h : Fin 512) (w : Fin 1024) : ℝ := ∑ c : Fin 19, d.p n c h w * d.p n c h w

/-- How many pixels of an image have class `c`. -/
def count (d : Data X) (n : Fin 4) (c : Fin 19) : ℝ := ∑ h : Fin 512, ∑ w : Fin 1024, if d.cls n h w = c then 1 else 0

/-- The sum over the pixels of class `c` of the squares of their probabilities. -/
def mass (d : Data X) (n : Fin 4) (c : Fin 19) : ℝ :=
  ∑ h : Fin 512, ∑ w : Fin 1024, if d.cls n h w = c then sq d n h w else 0

/-- The loss. -/
def loss (d : Data X) : ℝ := (∑ n : Fin 4, ∑ c : Fin 19, mass d n c * weight (count d n c) 524288) * (-1 / 76)

/-- A count is zero or at least one. -/
theorem count_cases (d : Data X) (n : Fin 4) (c : Fin 19) : count d n c = 0 ∨ 1 ≤ count d n c := by
  have e : count d n c = ((∑ h : Fin 512, ∑ w : Fin 1024, if d.cls n h w = c then 1 else 0 : ℕ) : ℝ) := by
    unfold count; push_cast; rfl
  rw [e]
  rcases Nat.eq_zero_or_pos (∑ h : Fin 512, ∑ w : Fin 1024, if d.cls n h w = c then 1 else 0 : ℕ) with h | h
  · left; rw [h]; exact Nat.cast_zero
  · right; exact_mod_cast h

/-- Over the classes, what the classes select of a value adds up to the value. -/
theorem sum_classes (d : Data X) (n : Fin 4) (v : Fin 512 → Fin 1024 → Fin 19 → ℝ) :
    ∑ c : Fin 19, (∑ h : Fin 512, ∑ w : Fin 1024, if d.cls n h w = c then v h w c else 0) = ∑ h, ∑ w, v h w (d.cls n h w) := by
  rw [Finset.sum_comm]
  refine Finset.sum_congr rfl fun h _ => ?_
  rw [Finset.sum_comm]
  refine Finset.sum_congr rfl fun w _ => ?_
  rw [Finset.sum_ite_eq, if_pos (Finset.mem_univ _)]

/-- The counts of an image add up to the number of its pixels. -/
theorem sum_count (d : Data X) (n : Fin 4) : ∑ c : Fin 19, count d n c = 524288 := by
  unfold count
  rw [sum_classes d n fun _ _ _ => 1]
  simp
  norm_num

/-- The weighted sums by class are the weighted sums by pixel. -/
theorem sum_mass (d : Data X) (n : Fin 4) (g : Fin 19 → ℝ) :
    ∑ c : Fin 19, mass d n c * g c = ∑ h, ∑ w, sq d n h w * g (d.cls n h w) := by
  rw [← sum_classes d n fun h w c => sq d n h w * g c]
  refine Finset.sum_congr rfl fun c _ => ?_
  unfold mass
  rw [Finset.sum_mul]
  refine Finset.sum_congr rfl fun h _ => ?_
  rw [Finset.sum_mul]
  refine Finset.sum_congr rfl fun w _ => ?_
  rw [ite_mul, zero_mul]

end Cert.Loss

end
-- ==== Proof.RefEdges.lean ====
/- The reference's bins: their edges, and which bin a class falls in. -/
module

public import proofs.«01_k».proof.Proof.RefLabel
public import proofs.«01_k».proof.Proof.Pixels
public import proofs.«01_k».proof.Proof.Loss
public import Idealize.ShloMosaic.Lib.Pointwise

@[expose] public section

set_option maxRecDepth 16384

noncomputable section

namespace Cert.RefEdges

open Cert.ReferenceIdeal Cert.RefRead Cert.RefLabel Idealize.ShloMosaic Cert.Pixels

/-- The edge `b` of the bins: from -1 to 18 in 20 equal steps. -/
def edge (b : ℕ) : ℝ := -1 + 19 * (b : ℝ) / 20

/-- The word 0x41900000 is 18. -/
theorem word_18 : Ideal.ofBits .f32 0x41900000#32 = ((18 : ℝ) : EReal) := by
  simp [Ideal.ofBits, Ideal.ieee, -EReal.coe_mul]; norm_num

/-- The word 0x41A00000 is 20. -/
theorem word_20 : Ideal.ofBits .f32 0x41A00000#32 = ((20 : ℝ) : EReal) := by
  simp [Ideal.ofBits, Ideal.ieee, -EReal.coe_mul]; norm_num

/-- The word 0x3F800000 is 1. -/
theorem word_1 : Ideal.ofBits .f32 0x3F800000#32 = ((1 : ℝ) : EReal) := by
  rw [Ideal.ofBits_one_f32]; rfl

/-- A small number's word, read as a float. -/
theorem sitofp_val (b : Fin 20) : (FloatOps.sitofp .f32 (BitVec.ofNat 32 b.val) : Ideal .f32) = ((b.val : ℝ) : EReal) := by
  have e : ∀ b : Fin 20, (BitVec.ofNat 32 b.val).toInt = (b.val : ℤ) := by decide
  show (((BitVec.ofNat 32 b.val).toInt : ℝ) : EReal) = _
  rw [e]
  rfl

/-- The position of an edge, as a fraction of the range. -/
theorem frac_val (b : Fin 20) : val_main_call2_v6 (F := Ideal) (ix1 b) = (((b.val : ℝ) / 20 : ℝ) : EReal) := by
  pointwise [val_main_call2_v6, val_main_call2_v4, val_main_call2_v5, val_main_call2_cst_0]
  rw [sitofp_val, word_20, Ideal.div_coe (by norm_num), ← EReal.coe_mul, mul_one_div]

/-- The edges but the last. -/
theorem mix_val (b : Fin 20) : val_main_call2_v15 (F := Ideal) (ix1 b) = ((edge b.val : ℝ) : EReal) := by
  pointwise [val_main_call2_v15, val_main_call2_v14, val_main_call2_v11, val_main_call2_v9, val_main_call2_v13, val_main_call2_v12,
    val_main_call2_v10, val_main_call2_v8, val_main_call2_v7, val_main_call2_v1, val_main_call2_v0, val_main_cst_1, val_main_cst_2, val_main_call2_cst_1]
  rw [frac_val]
  show Ideal.ofBits .f32 0xBF800000#32 * (1 - (((b.val : ℝ) / 20 : ℝ) : EReal))
    + Ideal.ofBits .f32 0x41900000#32 * (((b.val : ℝ) / 20 : ℝ) : EReal) = _
  rw [ofBits_neg_one, word_18, ← EReal.coe_one, ← EReal.coe_sub, ← EReal.coe_mul, ← EReal.coe_mul, ← EReal.coe_add]
  refine congrArg _ ?_
  unfold edge
  ring

/-- The edges. -/
theorem edge_val (b : Fin 21) : val_main_v5 (F := Ideal) (ix1 b) = ((edge b.val : ℝ) : EReal) := by
  pointwise [val_main_v5]
  split
  · exact mix_val _
  · have hb : b.val = 20 := by have := b.isLt; omega
    have e : edge b.val = 18 := by rw [hb]; unfold edge; norm_num
    rw [e]
    pointwise [val_main_call2_v16, val_main_call2_v1, val_main_cst_2]
    exact word_18

/-- At or above an edge. -/
theorem edge_le (b k : ℕ) : edge b ≤ (k : ℝ) ↔ 19 * b ≤ 20 * (k + 1) := by
  rw [← Nat.cast_le (α := ℝ)]
  push_cast
  unfold edge
  constructor <;> intro h <;> linarith

/-- Below an edge. -/
theorem lt_edge (b k : ℕ) : (k : ℝ) < edge b ↔ 20 * (k + 1) < 19 * b := by
  rw [← not_le, ← not_le, edge_le]

/-- At an edge. -/
theorem eq_edge (b k : ℕ) : (k : ℝ) = edge b ↔ 20 * (k + 1) = 19 * b := by
  rw [← Nat.cast_inj (R := ℝ)]
  push_cast
  unfold edge
  constructor <;> intro h <;> linarith

/-- A class falls in the bin after its own number, and in no other. -/
theorem bin (b : Fin 20) (k : Fin 19) :
    (edge b.val ≤ (k.val : ℝ) ∧ ((k.val : ℝ) < edge (1 + b.val) ∨ (b.val = 19 ∧ (k.val : ℝ) = edge (1 + b.val)))) ↔ b.val = 1 + k.val := by
  rw [edge_le, lt_edge, eq_edge]
  have := b.isLt
  have := k.isLt
  omega

/-- The comparison of a bin's number with the last bin's. -/
theorem last_bit : ∀ b : Fin 20, IntOp.cmpi .eq (BitVec.ofNat 32 b.val) 19#32 = BitVec.ofBool (decide (b.val = 19)) := by decide

/-- Four decisions' bits, put together. -/
theorem bits (P Q R S : Prop) [Decidable P] [Decidable Q] [Decidable R] [Decidable S] [Decidable (P ∧ (Q ∨ R ∧ S))] :
    IntOp.andi (BitVec.ofBool (decide P)) (IntOp.ori (BitVec.ofBool (decide Q))
      (IntOp.andi (BitVec.ofBool (decide R)) (BitVec.ofBool (decide S)))) = BitVec.ofBool (decide (P ∧ (Q ∨ R ∧ S))) := by
  by_cases hP : P <;> by_cases hQ : Q <;> by_cases hR : R <;> by_cases hS : S <;> simp [hP, hQ, hR, hS, IntOp.andi, IntOp.ori]

variable {x : Box.Idx → EReal} (d : Data x)

/-- The comparisons with the edges of bin `b`, for a pixel: at or above its lower edge, and below its upper edge or, for the
    last bin, at it. They hold together for the bin after the class's number. -/
theorem inside_bit (n : Fin 4) (b : Fin 20) (h : Fin 512) (w : Fin 1024) :
    val_main_v28 (F := Ideal) x (ix4 n b h w) = BitVec.ofBool (decide (b.val = 1 + (d.cls n h w).val)) := by
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_c_3]
  have lab : (FloatOps.sitofp .f32 (val_main_v4 (F := Ideal) x (ix3 n h w)) : Ideal .f32) = (((d.cls n h w).val : ℝ) : EReal) := by
    rw [v4_val d]
    exact sitofp_val (d.cls n h w).castSucc
  rw [lab, edge_val ⟨b.val, _⟩, edge_val ⟨1 + b.val, _⟩, last_bit, ← decide_eq_decide.2 (bin b (d.cls n h w))]
  simp only [EReal.coe_le_coe_iff, EReal.coe_lt_coe_iff, EReal.coe_eq_coe_iff]
  exact bits _ _ _ _

/-- The counts of the bins. -/
theorem v31_sum (n : Fin 4) (b : Fin 20) :
    val_main_v31 (F := Ideal) x (ix2 n b) = ((∑ h : Fin 512, ∑ w : Fin 1024, if b.val = 1 + (d.cls n h w).val then 1 else 0 : ℝ) : EReal) := by
  pointwise [val_main_v31, val_main_v30, val_main_v29]
  rw [(val_main_cst_4_apply _).trans Ideal.ofBits_zero_f32, zero_add]
  simp only [inside_bit d, sitofp_bit, coe_sum, decide_eq_true_eq]
  refine Finset.sum_congr rfl fun h _ => Finset.sum_congr rfl fun w _ => ?_
  split <;> rfl

/-- The histogram is the counts of the classes. -/
theorem v32_val (n : Fin 4) (c : Fin 19) : val_main_v32 (F := Ideal) x (ix2 n c) = ((Cert.Loss.count d n c : ℝ) : EReal) := by
  pointwise [val_main_v32]
  rw [v31_sum d n ⟨1 + c.val, _⟩]
  refine congrArg _ ?_
  unfold Cert.Loss.count
  refine Finset.sum_congr rfl fun h _ => Finset.sum_congr rfl fun w _ => ?_
  refine if_congr ?_ rfl rfl
  rw [Fin.ext_iff]
  show 1 + c.val = 1 + (d.cls n h w).val ↔ _
  omega

end Cert.RefEdges

end
-- ==== Proof.RefGather.lean ====
/- The reference's weight lookup read at a pixel. -/
module

public import proofs.«01_k».proof.Proof.RefRead
public import Idealize.ShloMosaic.Lib.Pointwise

@[expose] public section

set_option maxRecDepth 16384

noncomputable section

namespace Cert.RefGather

open Cert.ReferenceIdeal Idealize.ShloMosaic

/-- Those dimension numbers, under a short name. -/
abbrev dims : GatherDims S4x19 S4x524288x1 S4x524288 := gather_S4x19_S4x524288x1_S4x524288_n_1_0_0_1_2_11

/-- The lookup at `(n, j)` reads the table's row `n` at the position the index holds, when that position is a class. -/
theorem gather_val {α : Type} (v : S4x19.Idx → α) (idx : IVec S4x524288x1 32) (n : Fin 4) (j : Fin 524288) (k : Fin 19)
    (hk : idx (ix3 n j 0) = BitVec.ofNat 32 k.val) :
    Host.gather dims v idx (ix2 n j) = v (ix2 n k) := by
  unfold Host.gather
  congr 1
  funext a
  refine Fin.ext ?_
  show dims.start (ix2 n j) idx a + dims.batchCoord (ix2 n j) a + dims.offCoord (ix2 n j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ dims.operandBatchingDims from List.mem_singleton.mpr rfl)]
    simp only [Nat.add_zero, Nat.zero_add]
    rfl
  · rw [GatherDims.batchCoord_eq_zero _ _ _ (fun h => by simp [dims, gather_S4x19_S4x524288x1_S4x524288_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ dims.startIndexMap from List.mem_singleton.mpr rfl)]
    have hsi : dims.siIdx (ix2 n j) ⟨List.idxOf (1 : Fin 2) dims.startIndexMap,
        List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi, hk]
    show min (BitVec.ofNat 32 k.val).toInt.toNat 18 = k.val
    have e : ∀ k : Fin 19, min (BitVec.ofNat 32 k.val).toInt.toNat 18 = k.val := by decide
    exact e k

end Cert.RefGather

end
-- ==== Proof.RefVal.lean ====
/- The reference's result as one real number. -/
module

public import proofs.«01_k».proof.Proof.RefEdges
public import proofs.«01_k».proof.Proof.RefGather

@[expose] public section

set_option maxRecDepth 16384

noncomputable section

namespace Cert.RefVal

open Cert.ReferenceIdeal Cert.RefRead Cert.RefLabel Cert.RefEdges Cert.RefGather Idealize.ShloMosaic Cert.Pixels Cert.Weight Cert.Loss

/-- The word 0x42980000 is 76. -/
theorem word_76 : Ideal.ofBits .f32 0x42980000#32 = ((76 : ℝ) : EReal) := by
  simp [Ideal.ofBits, Ideal.ieee, -EReal.coe_mul]; norm_num

variable {x : Box.Idx → EReal} (d : Data x)

include d in
/-- An image's histogram adds up to the number of its pixels. -/
theorem v33_val (n : Fin 4) : val_main_v33 (F := Ideal) x (ix1 n) = ((524288 : ℝ) : EReal) := by
  pointwise [val_main_v33]
  rw [(val_main_cst_5_apply _).trans Ideal.ofBits_zero_f32, zero_add]
  simp only [v32_val d, ← coe_sum, sum_count]

/-- The weight of a class. -/
theorem v44_val (n : Fin 4) (c : Fin 19) : val_main_v44 (F := Ideal) x (ix2 n c) = ((weight (count d n c) 524288 : ℝ) : EReal) := by
  pointwise [val_main_v44, val_main_v43, val_main_v42, val_main_v41, val_main_v40, val_main_v39, val_main_v38, val_main_v37,
    val_main_v36, val_main_v35, val_main_v34, val_main_cst_6, val_main_cst_7, val_main_cst_8, val_main_cst_9]
  rw [alpha_word, beta_word, v32_val d, v33_val d, Ideal.pow_coe_coe, Ideal.pow_coe_coe, ← EReal.coe_mul, ← EReal.coe_one, ← coe_max,
    Ideal.div_coe (one_le_den _).ne', ← EReal.coe_mul, one_mul]
  rfl

/-- The position of a pixel in its image, row by row. -/
def flat (h : Fin 512) (w : Fin 1024) : Fin 524288 := ⟨h.val * 1024 + w.val, by have := h.isLt; have := w.isLt; omega⟩

/-- The index that the lookup takes for a pixel is its class. -/
theorem pick_val (n : Fin 4) (h : Fin 512) (w : Fin 1024) :
    val_main_call3_v5 (F := Ideal) x (ix3 n (flat h w) 0) = BitVec.ofNat 32 (d.cls n h w).val := by
  have e : val_main_v45 (F := Ideal) x (ix2 n (flat h w)) = BitVec.ofNat 32 (d.cls n h w).val := by
    rw [val_main_v45_apply, ← v4_val d]
    refine congrArg _ ?_
    have h1 := h.isLt
    have h2 := w.isLt
    have h0 := n.isLt
    funext a
    match a with
    | ⟨0, _⟩ => exact Fin.ext (show (n.val * 524288 + (h.val * 1024 + w.val)) / 524288 = n.val by omega)
    | ⟨1, _⟩ => exact Fin.ext (show (n.val * 524288 + (h.val * 1024 + w.val)) / 1024 % 512 = h.val by omega)
    | ⟨2, _⟩ => exact Fin.ext (show (n.val * 524288 + (h.val * 1024 + w.val)) % 1024 = w.val by omega)
  have s : ∀ k : Fin 19, IntOp.cmpi .slt (BitVec.ofNat 32 k.val) 0#32 = 0#1 := by decide
  rw [val_main_call3_v5_apply]
  have i : idx_main_call3_v5 (ix3 n (flat h w) 0) = ix2 n (flat h w) := by
    have h1 := h.isLt
    have h2 := w.isLt
    have h0 := n.isLt
    funext a
    match a with
    | ⟨0, _⟩ => exact Fin.ext (show ((n.val * 524288 + (h.val * 1024 + w.val)) * 1 + 0) / 524288 = n.val by omega)
    | ⟨1, _⟩ => exact Fin.ext (show ((n.val * 524288 + (h.val * 1024 + w.val)) * 1 + 0) % 524288 = h.val * 1024 + w.val by omega)
  rw [i, val_main_call3_v4_apply, val_main_call3_v1_apply, val_main_call3_v0_apply, val_main_call3_c_apply, e, s]
  exact if_neg (by decide)

/-- The weight of a pixel is that of its class. -/
theorem v47_val (n : Fin 4) (h : Fin 512) (w : Fin 1024) :
    val_main_v47 (F := Ideal) x (ix3 n h w) = ((weight (count d n (d.cls n h w)) 524288 : ℝ) : EReal) := by
  have i : idx_main_v47 (ix3 n h w) = ix2 n (flat h w) := by
    have h1 := h.isLt
    have h2 := w.isLt
    have h0 := n.isLt
    funext a
    match a with
    | ⟨0, _⟩ => exact Fin.ext (show ((n.val * 512 + h.val) * 1024 + w.val) / 524288 = n.val by omega)
    | ⟨1, _⟩ => exact Fin.ext (show ((n.val * 512 + h.val) * 1024 + w.val) % 524288 = h.val * 1024 + w.val by omega)
  rw [val_main_v47_apply, i]
  unfold val_main_v46
  rw [gather_val _ _ n (flat h w) (d.cls n h w) (pick_val d n h w), v44_val d]

/-- The weighted square of a probability. -/
theorem v53_val (n : Fin 4) (c : Fin 19) (h : Fin 512) (w : Fin 1024) :
    val_main_v53 (F := Ideal) x (ix4 n c h w)
      = ((d.p n c h w * d.p n c h w * weight (count d n (d.cls n h w)) 524288 : ℝ) : EReal) := by
  pointwise [val_main_v53, val_main_v52, val_main_v51, val_main_v50, val_main_v49, val_main_v48, val_main_call4_v1]
  rw [v3_val d, v47_val d, d.eq_p, ← EReal.coe_mul, ← EReal.coe_mul]
  exact if_pos rfl

/-- The sum over all probabilities. -/
theorem v54_val : val_main_v54 (F := Ideal) x ix0
    = ((∑ n : Fin 4, ∑ c : Fin 19, mass d n c * weight (count d n c) 524288 : ℝ) : EReal) := by
  pointwise [val_main_v54]
  refine (Ideal.hostReduceAdd_total _ (fun b => b.elim0) _ _ _).trans ?_
  rw [(val_main_cst_11_apply _).trans Ideal.ofBits_zero_f32, zero_add, sum_idx4]
  simp only [v53_val d, ← coe_sum]
  refine congrArg _ (Finset.sum_congr rfl fun n _ => ?_)
  rw [sum_mass d n fun c => weight (count d n c) 524288, Finset.sum_comm]
  refine Finset.sum_congr rfl fun h _ => ?_
  rw [Finset.sum_comm]
  refine Finset.sum_congr rfl fun w _ => ?_
  unfold Cert.Loss.sq
  rw [Finset.sum_mul]

/-- The reference's result is the loss. -/
theorem v56_val : val_main_v56 (F := Ideal) x = fun _ => ((loss d : ℝ) : EReal) := by
  have sub := sub0
  funext i
  rw [Subsingleton.elim i ix0, val_main_v56_apply, val_main_v55_apply, v54_val d, val_main_cst_12_apply]
  show Ideal.div (-(((∑ n : Fin 4, ∑ c : Fin 19, mass d n c * weight (count d n c) 524288 : ℝ)) : EReal))
    (Ideal.ofBits .f32 0x42980000#32) = _
  rw [word_76, Ideal.div_coe (by norm_num), ← EReal.coe_neg, ← EReal.coe_mul]
  refine congrArg _ ?_
  unfold loss
  ring

end Cert.RefVal

end
-- ==== Proof.Tile.lean ====
/- What the kernel's first region computes at one grid point, written once for every class and every chunk of eight rows:
   the chunk's largest probability and sum of squares at each pixel, and the counts and sums that the chunks add up. -/
module

public import proofs.«01_k».proof.Proof.Gen.KernelIdeal.Frame.Region0

@[expose] public section

set_option maxRecDepth 16384

noncomputable section

namespace Cert.Tile

open Cert.KernelIdeal Cert.KernelIdeal.Gen Idealize.ShloMosaic Idealize.ShloMosaic.TcCoe Idealize.SL.Sem

variable {F : FTy → Type} [FloatOps F]

/-- Class `c`'s rows of chunk `k` lie in the block. -/
theorem chunk_in (c k : ℕ) : ∀ a, (![0, c % 19, 8 * (k % 32), 0] : Fin 4 → ℕ) a + S1x1x8x1024.size a ≤ S1x19x256x1024.size a := by
  have h₁ : c % 19 < 19 := Nat.mod_lt _ (by decide)
  have h₂ : k % 32 < 32 := Nat.mod_lt _ (by decide)
  intro a
  match a with
  | ⟨0, _⟩ => exact Nat.le_refl 1
  | ⟨1, _⟩ => exact h₁
  | ⟨2, _⟩ => show 8 * (k % 32) + 8 ≤ 256; omega
  | ⟨3, _⟩ => exact Nat.le_refl 1024

/-- Chunk `k` of class `c`: eight rows of the class's plane. -/
def row (x : Vec F S1x19x256x1024 .f32) (k c : ℕ) : FVec F S8x1024 .f32 :=
  shapeCast S8x1024 (View.ld x (Rect.unit (s := S1x19x256x1024) ![0, c % 19, 8 * (k % 32), 0] S1x1x8x1024.size (chunk_in c k)))
    shapeCasts_S1x1x8x1024_S8x1024

/-- The largest of classes `0, …, n` at each pixel of chunk `k`. -/
def top (x : Vec F S1x19x256x1024 .f32) (k n : ℕ) : FVec F S8x1024 .f32 :=
  Nat.rec (motive := fun _ => FVec F S8x1024 .f32) (row x k 0) (fun c r => maximumf r (row x k (c + 1))) n

/-- The sum of the squares of classes `0, …, n` at each pixel of chunk `k`. -/
def sqs (x : Vec F S1x19x256x1024 .f32) (k n : ℕ) : FVec F S8x1024 .f32 :=
  Nat.rec (motive := fun _ => FVec F S8x1024 .f32) (mulf (row x k 0) (row x k 0))
    (fun c r => addf r (mulf (row x k (c + 1)) (row x k (c + 1)))) n

/-- The sum of a chunk's entries. -/
def total (v : FVec F S8x1024 .f32) : F .f32 :=
  extractAt ![0, 0, 0] (shapeCast S1x1x1 (multiReduction .add [1, 2] S1 (shapeCast S1x8x1024 v shapeCasts_S8x1024_S1x8x1024)
    0x00000000#32 reduces_S1x8x1024_S1 (.inl rfl) rfl) shapeCasts_S1_S1x1x1) inpos_S1x1x1_p0_0_0

/-- How many pixels of chunk `k` have class `c` at the top. -/
def hits (x : Vec F S1x19x256x1024 .f32) (c k : ℕ) : F .f32 :=
  total (select (cmpf .oeq (row x k c) (top x k 18)) (broadcast S8x1024 (Scalar.ofBits .f32 0x3F800000#32))
    (broadcast S8x1024 (Scalar.ofBits .f32 0x00000000#32)))

/-- The sum of squares over the pixels of chunk `k` that have class `c` at the top. -/
def mass (x : Vec F S1x19x256x1024 .f32) (c k : ℕ) : F .f32 :=
  total (select (cmpf .oeq (row x k c) (top x k 18)) (sqs x k 18) (broadcast S8x1024 (Scalar.ofBits .f32 0x00000000#32)))

/-- `f 0 + … + f (n - 1)`, added one at a time to zero. -/
def acc (f : ℕ → F .f32) (n : ℕ) : F .f32 :=
  Nat.rec (motive := fun _ => F .f32) (Scalar.ofBits .f32 0x00000000#32) (fun k r => Scalar.addf r (f k)) n

/-- Class `c`'s count over the block's 32 chunks. -/
def cnt (x : Vec F S1x19x256x1024 .f32) (c : ℕ) : F .f32 := acc (hits x c) 32

/-- Class `c`'s sum of squares over the block's 32 chunks. -/
def val (x : Vec F S1x19x256x1024 .f32) (c : ℕ) : F .f32 := acc (mass x c) 32

/-- The last class's count: the pixels that no other class has. -/
def cntLast (x : Vec F S1x19x256x1024 .f32) : F .f32 :=
  Scalar.subf (Scalar.ofBits .f32 0x48800000#32) (acc (cnt x) 18)

/-- The last class's sum of squares: what the other classes leave of the whole. -/
def valLast (x : Vec F S1x19x256x1024 .f32) : F .f32 :=
  Scalar.subf (acc (fun k => total (sqs x k 18)) 32) (acc (val x) 18)

/-- Nineteen values as the block's one row. -/
def stacked (f : ℕ → F .f32) (l : F .f32) : FVec F S1x1x1x19 .f32 :=
  shapeCast S1x1x1x19 (concatenate S19 0 [⟨S1, broadcast S1 (f 0)⟩, ⟨S1, broadcast S1 (f 1)⟩, ⟨S1, broadcast S1 (f 2)⟩, ⟨S1, broadcast S1 (f 3)⟩, ⟨S1, broadcast S1 (f 4)⟩, ⟨S1, broadcast S1 (f 5)⟩, ⟨S1, broadcast S1 (f 6)⟩, ⟨S1, broadcast S1 (f 7)⟩, ⟨S1, broadcast S1 (f 8)⟩, ⟨S1, broadcast S1 (f 9)⟩, ⟨S1, broadcast S1 (f 10)⟩, ⟨S1, broadcast S1 (f 11)⟩, ⟨S1, broadcast S1 (f 12)⟩, ⟨S1, broadcast S1 (f 13)⟩, ⟨S1, broadcast S1 (f 14)⟩, ⟨S1, broadcast S1 (f 15)⟩, ⟨S1, broadcast S1 (f 16)⟩, ⟨S1, broadcast S1 (f 17)⟩, ⟨S1, broadcast S1 l⟩]
    concatenates_S1_S1_S1_S1_S1_S1_S1_S1_S1_S1_S1_S1_S1_S1_S1_S1_S1_S1_S1_S19_d0) shapeCasts_S19_S1x1x1x19

/-- The first output's block is the row of counts. -/
theorem out_cnt (x : Vec F S1x19x256x1024 .f32) : out0_1 x = View.canon [⟨r0_608, stacked (cnt x) (cntLast x)⟩] := by
  chain_rfl

/-- The second output's block is the row of sums of squares. -/
theorem out_val (x : Vec F S1x19x256x1024 .f32) : out0_2 x = View.canon [⟨r0_608, stacked (val x) (valLast x)⟩] := by
  chain_rfl

end Cert.Tile

end
-- ==== Proof.TileVal.lean ====
/- The first region's counts and sums at one grid point, as real numbers, for a block of real probabilities in which
   every pixel has one class above the others. -/
module

public import proofs.«01_k».proof.Proof.Tile
public import proofs.«01_k».proof.Proof.Pixels
public import Idealize.ShloMosaic.Lib.Pipeline.ValueKit

@[expose] public section

set_option maxRecDepth 16384

noncomputable section

namespace Cert.TileVal

open Cert.KernelIdeal Cert.KernelIdeal.Gen Idealize.ShloMosaic Idealize.ShloMosaic.TcCoe Idealize.SL.Sem
open Cert.Tile

/-- A block of real probabilities with the class of each pixel. -/
structure Block (x : Vec Ideal S1x19x256x1024 .f32) where
  /-- the probability as a real number -/
  q : Fin 19 → Fin 256 → Fin 1024 → ℝ
  /-- the class of a pixel -/
  cls : Fin 256 → Fin 1024 → Fin 19
  eq_q : ∀ c r w, x (ix4 0 c r w) = ((q c r w : ℝ) : EReal)
  lt_top : ∀ c r w, c ≠ cls r w → q c r w < q (cls r w) r w

/-- Row `y` of chunk `k`. -/
def rowAt (k : ℕ) (y : Fin 8) : Fin 256 := ⟨8 * (k % 32) + y, by have := Nat.mod_lt k (show 0 < 32 by decide); omega⟩

/-- Class `c`, as a class. -/
def classAt (c : ℕ) : Fin 19 := ⟨c % 19, Nat.mod_lt _ (by decide)⟩

variable {x : Vec Ideal S1x19x256x1024 .f32}

/-- A chunk's two unit axes dropped. -/
theorem cast_apply (v : FVec Ideal S1x1x8x1024 .f32) (y : Fin 8) (w : Fin 1024) :
    shapeCast S8x1024 v shapeCasts_S1x1x8x1024_S8x1024 (ix2 y w) = v (ix4 0 0 y w) := by
  pointwise

/-- Eight rows of one class's plane, read at an entry. -/
theorem ld_apply (x : Vec Ideal S1x19x256x1024 .f32) (a b : ℕ)
    (h : ∀ i, (![0, a, b, 0] : Fin 4 → ℕ) i + S1x1x8x1024.size i ≤ S1x19x256x1024.size i) (ha : a < 19) (hb : b + 8 ≤ 256)
    (y : Fin 8) (w : Fin 1024) :
    (shapeCast S8x1024 (View.ld x (Rect.unit (s := S1x19x256x1024) ![0, a, b, 0] S1x1x8x1024.size h))
      shapeCasts_S1x1x8x1024_S8x1024 : FVec Ideal S8x1024 .f32) (ix2 y w) = x (ix4 0 ⟨a, ha⟩ ⟨b + y, by omega⟩ w) := by
  refine (cast_apply _ y w).trans (View.ld_unit_apply_of _ _ _ _ _ _ fun i => ?_)
  match i with
  | ⟨0, _⟩ => rfl
  | ⟨1, _⟩ => rfl
  | ⟨2, _⟩ => rfl
  | ⟨3, _⟩ => exact (Nat.zero_add _).symm

/-- A chunk's entry is the block's. -/
theorem row_apply (x : Vec Ideal S1x19x256x1024 .f32) (k c : ℕ) (y : Fin 8) (w : Fin 1024) :
    row x k c (ix2 y w) = x (ix4 0 (classAt c) (rowAt k y) w) := by
  have := Nat.mod_lt k (show 0 < 32 by decide)
  exact ld_apply x (c % 19) (8 * (k % 32)) (chunk_in c k) (Nat.mod_lt _ (by decide)) (by omega) y w

/-- A chunk's entry as a real number. -/
theorem row_val (b : Block x) (k c : ℕ) (y : Fin 8) (w : Fin 1024) :
    row x k c (ix2 y w) = ((b.q (classAt c) (rowAt k y) w : ℝ) : EReal) := by
  rw [row_apply, b.eq_q]

/-- The running maximum is the maximum over the classes so far. -/
theorem top_apply (x : Vec Ideal S1x19x256x1024 .f32) (k n : ℕ) (y : Fin 8) (w : Fin 1024) :
    top x k (n + 1) (ix2 y w) = max (top x k n (ix2 y w)) (row x k (n + 1) (ix2 y w)) := rfl

/-- The running maximum is at least every class so far. -/
theorem le_top (x : Vec Ideal S1x19x256x1024 .f32) (k : ℕ) (y : Fin 8) (w : Fin 1024) :
    ∀ n c, c ≤ n → row x k c (ix2 y w) ≤ top x k n (ix2 y w) := by
  intro n
  induction n with
  | zero => intro c hc; rw [Nat.le_zero.1 hc]; exact le_rfl
  | succ n ih =>
    intro c hc
    rw [top_apply]
    rcases Nat.lt_or_ge n c with h | h
    · rw [show c = n + 1 by omega]; exact le_max_right _ _
    · exact (ih c h).trans (le_max_left _ _)

/-- The running maximum is one of the classes so far. -/
theorem top_mem (x : Vec Ideal S1x19x256x1024 .f32) (k : ℕ) (y : Fin 8) (w : Fin 1024) :
    ∀ n, ∃ c, c ≤ n ∧ top x k n (ix2 y w) = row x k c (ix2 y w) := by
  intro n
  induction n with
  | zero => exact ⟨0, le_rfl, rfl⟩
  | succ n ih =>
    obtain ⟨c, hc, e⟩ := ih
    rw [top_apply]
    rcases max_choice (top x k n (ix2 y w)) (row x k (n + 1) (ix2 y w)) with h | h
    · exact ⟨c, by omega, by rw [h, e]⟩
    · exact ⟨n + 1, le_rfl, h⟩

/-- The whole maximum is the probability of the pixel's class. -/
theorem top_val (b : Block x) (k : ℕ) (y : Fin 8) (w : Fin 1024) :
    top x k 18 (ix2 y w) = ((b.q (b.cls (rowAt k y) w) (rowAt k y) w : ℝ) : EReal) := by
  apply le_antisymm
  · obtain ⟨c, -, e⟩ := top_mem x k y w 18
    rw [e, row_val b, EReal.coe_le_coe_iff]
    rcases eq_or_ne (classAt c) (b.cls (rowAt k y) w) with h | h
    · rw [h]
    · exact (b.lt_top _ _ _ h).le
  · have h := le_top x k y w 18 (b.cls (rowAt k y) w) (by omega)
    rw [row_val b] at h
    rwa [show classAt (b.cls (rowAt k y) w) = b.cls (rowAt k y) w from Fin.ext (Nat.mod_eq_of_lt (Fin.isLt _))] at h

/-- A class is at the top exactly when it is the pixel's class. -/
theorem row_eq_top_iff (b : Block x) (k c : ℕ) (y : Fin 8) (w : Fin 1024) :
    row x k c (ix2 y w) = top x k 18 (ix2 y w) ↔ b.cls (rowAt k y) w = classAt c := by
  rw [row_val b, top_val b, EReal.coe_eq_coe_iff]
  constructor
  · intro e
    by_contra hne
    exact (b.lt_top _ _ _ (Ne.symm hne)).ne e
  · intro e; rw [e]

/-- The sum of the squares of all classes at a pixel. -/
def Block.sq (b : Block x) (r : Fin 256) (w : Fin 1024) : ℝ := ∑ c : Fin 19, b.q c r w * b.q c r w

/-- The running sum of squares is the sum over the classes so far. -/
theorem sqs_val (b : Block x) (k : ℕ) (y : Fin 8) (w : Fin 1024) :
    ∀ n, sqs x k n (ix2 y w)
      = ((∑ c ∈ Finset.range (n + 1), b.q (classAt c) (rowAt k y) w * b.q (classAt c) (rowAt k y) w : ℝ) : EReal) := by
  intro n
  induction n with
  | zero =>
    show row x k 0 (ix2 y w) * row x k 0 (ix2 y w) = _
    rw [row_val b, Finset.sum_range_one, EReal.coe_mul]
  | succ n ih =>
    show sqs x k n (ix2 y w) + row x k (n + 1) (ix2 y w) * row x k (n + 1) (ix2 y w) = _
    rw [ih, row_val b, Finset.sum_range_succ _ (n + 1), EReal.coe_add, EReal.coe_mul]

/-- The whole sum of squares. -/
theorem sqs_full (b : Block x) (k : ℕ) (y : Fin 8) (w : Fin 1024) :
    sqs x k 18 (ix2 y w) = ((b.sq (rowAt k y) w : ℝ) : EReal) := by
  rw [sqs_val b, Block.sq, ← Fin.sum_univ_eq_sum_range (fun c => b.q (classAt c) (rowAt k y) w * b.q (classAt c) (rowAt k y) w)]
  refine congrArg Real.toEReal (Finset.sum_congr rfl fun c _ => ?_)
  rw [show classAt (c : ℕ) = c from Fin.ext (Nat.mod_eq_of_lt c.isLt)]

/-- The sum of a chunk's entries, read. -/
theorem total_apply (v : FVec Ideal S8x1024 .f32) : total v = ∑ y : Fin 8, ∑ w : Fin 1024, v (ix2 y w) := by
  pointwise [total]

/-- The sum of a chunk of real numbers. -/
theorem total_val (v : FVec Ideal S8x1024 .f32) (f : Fin 8 → Fin 1024 → ℝ) (h : ∀ y w, v (ix2 y w) = ((f y w : ℝ) : EReal)) :
    total v = ((∑ y, ∑ w, f y w : ℝ) : EReal) := by
  rw [total_apply, Cert.Pixels.coe_sum]
  refine Finset.sum_congr rfl fun y _ => ?_
  rw [Cert.Pixels.coe_sum]
  exact Finset.sum_congr rfl fun w _ => h y w

/-- A running sum of real numbers. -/
theorem acc_val (f : ℕ → Ideal .f32) (g : ℕ → ℝ) (n : ℕ) (h : ∀ k, k < n → f k = ((g k : ℝ) : EReal)) :
    acc f n = ((∑ k ∈ Finset.range n, g k : ℝ) : EReal) := by
  induction n with
  | zero => rw [Finset.sum_range_zero]; exact Ideal.ofBits_zero_f32
  | succ n ih =>
    show acc f n + f n = _
    rw [ih fun k hk => h k (by omega), h n (by omega), Finset.sum_range_succ, EReal.coe_add]

/-- A sum over the block's rows, chunk by chunk. -/
theorem sum_chunks (f : Fin 256 → ℝ) : ∑ k ∈ Finset.range 32, ∑ y : Fin 8, f (rowAt k y) = ∑ r : Fin 256, f r := by
  rw [← Fin.sum_univ_eq_sum_range (fun k => ∑ y : Fin 8, f (rowAt k y)), ← Finset.sum_product']
  refine Finset.sum_equiv (finProdFinEquiv (m := 32) (n := 8)) (fun _ => by simp) fun i _ => ?_
  congr 1
  apply Fin.ext
  show 8 * ((i.1 : ℕ) % 32) + (i.2 : ℕ) = (i.2 : ℕ) + 8 * (i.1 : ℕ)
  rw [Nat.mod_eq_of_lt i.1.isLt, add_comm]

/-- How many of the block's pixels have class `c`. -/
def Block.hits (b : Block x) (c : Fin 19) : ℝ := ∑ r : Fin 256, ∑ w : Fin 1024, if b.cls r w = c then 1 else 0

/-- The sum of squares over the block's pixels of class `c`. -/
def Block.mass (b : Block x) (c : Fin 19) : ℝ := ∑ r : Fin 256, ∑ w : Fin 1024, if b.cls r w = c then b.sq r w else 0

/-- A selection by equality of reals in the extended reals. -/
theorem select_eq (a c : Ideal .f32) (u v : ℝ) (p : Prop) [Decidable p] (h : a = c ↔ p) (u' v' : Ideal .f32)
    (hu : u' = ((u : ℝ) : EReal)) (hv : v' = ((v : ℝ) : EReal)) :
    (Scalar.select (FloatOps.cmpf .oeq a c) u' v' : Ideal .f32) = (((if p then u else v : ℝ)) : EReal) := by
  rw [Ideal.cmpf_def]
  by_cases hp : p
  · rw [if_pos hp, show Ideal.cmp .oeq a c = 1#1 by simp [Ideal.cmp, h.2 hp]]; exact hu
  · rw [if_neg hp, show Ideal.cmp .oeq a c = 0#1 by
      have : ¬a = c := fun e => hp (h.1 e)
      simp [Ideal.cmp, this]]; exact hv

/-- The word of 1. -/
theorem one_word : (Scalar.ofBits .f32 0x3F800000#32 : Ideal .f32) = ((1 : ℝ) : EReal) := Ideal.ofBits_one_f32

/-- The word of 0. -/
theorem zero_word : (Scalar.ofBits .f32 0x00000000#32 : Ideal .f32) = ((0 : ℝ) : EReal) := Ideal.ofBits_zero_f32

/-- The word of the number of a block's pixels. -/
theorem pixels_word : (Scalar.ofBits .f32 0x48800000#32 : Ideal .f32) = ((262144 : ℝ) : EReal) := by
  show Ideal.ofBits .f32 0x48800000#32 = _
  simp [Ideal.ofBits, Ideal.ieee, -EReal.coe_mul]; norm_num

/-- A class's count over the block. -/
theorem cnt_val (b : Block x) (c : Fin 19) : cnt x c = ((b.hits c : ℝ) : EReal) := by
  rw [cnt, acc_val _ (fun k => ∑ y : Fin 8, ∑ w : Fin 1024, if b.cls (rowAt k y) w = c then 1 else 0) 32,
    sum_chunks fun r => ∑ w : Fin 1024, if b.cls r w = c then 1 else 0]
  · rfl
  · intro k _
    refine total_val _ _ fun y w => ?_
    exact select_eq _ _ 1 0 _ (by rw [row_eq_top_iff b, show classAt (c : ℕ) = c from Fin.ext (Nat.mod_eq_of_lt c.isLt)]) _ _
      one_word zero_word

/-- A class's sum of squares over the block. -/
theorem val_val (b : Block x) (c : Fin 19) : val x c = ((b.mass c : ℝ) : EReal) := by
  rw [val, acc_val _ (fun k => ∑ y : Fin 8, ∑ w : Fin 1024, if b.cls (rowAt k y) w = c then b.sq (rowAt k y) w else 0) 32,
    sum_chunks fun r => ∑ w : Fin 1024, if b.cls r w = c then b.sq r w else 0]
  · rfl
  · intro k _
    refine total_val _ _ fun y w => ?_
    exact select_eq _ _ _ 0 _ (by rw [row_eq_top_iff b, show classAt (c : ℕ) = c from Fin.ext (Nat.mod_eq_of_lt c.isLt)]) _ _
      (sqs_full b k y w) zero_word

/-- Every pixel has a class: what the classes select of a value adds up to the value. -/
theorem sum_classes (b : Block x) (v : Fin 256 → Fin 1024 → ℝ) :
    ∑ c : Fin 19, (∑ r : Fin 256, ∑ w : Fin 1024, if b.cls r w = c then v r w else 0) = ∑ r, ∑ w, v r w := by
  rw [Finset.sum_comm]
  refine Finset.sum_congr rfl fun r _ => ?_
  rw [Finset.sum_comm]
  refine Finset.sum_congr rfl fun w _ => ?_
  rw [Finset.sum_ite_eq, if_pos (Finset.mem_univ _)]

/-- The last class's share is what the other classes leave. -/
theorem last_eq (f : Fin 19 → ℝ) (t : ℝ) (h : ∑ c, f c = t) (g : ℕ → ℝ) (hg : ∀ c : Fin 19, g c = f c) :
    t - ∑ c ∈ Finset.range 18, g c = f 18 := by
  rw [← h, ← Fin.sum_univ_eq_sum_range g, Fin.sum_univ_castSucc f]
  have : ∑ i : Fin 18, f i.castSucc = ∑ i : Fin 18, g i := Finset.sum_congr rfl fun i _ => (hg i.castSucc).symm
  rw [this]
  show _ + f 18 - _ = f 18
  ring

/-- The last class's count. -/
theorem cntLast_val (b : Block x) : cntLast x = ((b.hits 18 : ℝ) : EReal) := by
  show (Scalar.ofBits .f32 0x48800000#32 : Ideal .f32) - acc (cnt x) 18 = _
  rw [pixels_word, acc_val _ (fun c => b.hits (classAt c)) 18, ← EReal.coe_sub]
  · congr 1
    refine last_eq b.hits _ ?_ _ fun c => by rw [show classAt (c : ℕ) = c from Fin.ext (Nat.mod_eq_of_lt c.isLt)]
    show ∑ c : Fin 19, (∑ r : Fin 256, ∑ w : Fin 1024, if b.cls r w = c then (1 : ℝ) else 0) = _
    rw [sum_classes b fun _ _ => 1]
    simp
    norm_num
  · intro c hc
    have := cnt_val b (classAt c)
    rwa [show ((classAt c : Fin 19) : ℕ) = c from Nat.mod_eq_of_lt (by omega)] at this

/-- The last class's sum of squares. -/
theorem valLast_val (b : Block x) : valLast x = ((b.mass 18 : ℝ) : EReal) := by
  show acc (fun k => total (sqs x k 18)) 32 - acc (val x) 18 = _
  rw [acc_val _ (fun c => b.mass (classAt c)) 18,
    acc_val _ (fun k => ∑ y : Fin 8, ∑ w : Fin 1024, b.sq (rowAt k y) w) 32, sum_chunks fun r => ∑ w, b.sq r w, ← EReal.coe_sub]
  · congr 1
    refine last_eq b.mass _ ?_ _ fun c => by rw [show classAt (c : ℕ) = c from Fin.ext (Nat.mod_eq_of_lt c.isLt)]
    exact sum_classes b b.sq
  · exact fun k _ => total_val _ _ fun y w => sqs_full b k y w
  · intro c hc
    have := val_val b (classAt c)
    rwa [show ((classAt c : Fin 19) : ℕ) = c from Nat.mod_eq_of_lt (by omega)] at this

/-- The block's row of nineteen values, read at a class. -/
theorem stacked_apply (f : ℕ → Ideal .f32) (l : Ideal .f32) (g : Fin 19 → EReal) (hf : ∀ c : Fin 19, c ≠ 18 → f c = g c)
    (hl : l = g 18) (c : Fin 19) : stacked f l (ix4 0 0 0 c) = g c := by
  pointwise [stacked]
  fin_vals c with hk
  all_goals simp only [hk, Nat.reduceSub, Nat.reduceLT, ↓reduceDIte]
  all_goals first
    | exact (congrArg f hk.symm).trans (hf c (by rintro rfl; revert hk; decide))
    | exact hl.trans (congrArg g (Fin.ext hk.symm))

end Cert.TileVal

end
-- ==== Proof.Arrays.lean ====
/- The first region's two result arrays, as real numbers: per image, half and class, the count of the class's pixels and
   the sum over them of the squares of all probabilities. -/
module

public import proofs.«01_k».proof.Proof.TileVal
public import proofs.«01_k».proof.Proof.Loss
public import Idealize.ShloMosaic.Lib.Pipeline.ValueKit

@[expose] public section

set_option maxRecDepth 16384

noncomputable section

namespace Cert.Arrays

open Cert.KernelIdeal Cert.KernelIdeal.Gen Idealize.ShloMosaic Idealize.ShloMosaic.TcCoe Idealize.SL.Sem
open Cert.Tile Cert.TileVal Cert.Pixels
open Idealize.ShloMosaic.Pipeline (Dat)

variable {X : Box.Idx → EReal}

/-- Row `r` of half `t` of an image. -/
def rowIn (t : Fin 2) (r : Fin 256) : Fin 512 := ⟨256 * t + r, by omega⟩

/-- How many pixels of half `t` of image `n` have class `c`. -/
def hits (d : Data X) (n : Fin 4) (t : Fin 2) (c : Fin 19) : ℝ :=
  ∑ r : Fin 256, ∑ w : Fin 1024, if d.cls n (rowIn t r) w = c then 1 else 0

/-- The sum over those pixels of the squares of their probabilities. -/
def mass (d : Data X) (n : Fin 4) (t : Fin 2) (c : Fin 19) : ℝ :=
  ∑ r : Fin 256, ∑ w : Fin 1024, if d.cls n (rowIn t r) w = c then Cert.Loss.sq d n (rowIn t r) w else 0

/-- A sum over an image's rows, half by half. -/
theorem sum_halves (f : Fin 512 → ℝ) : ∑ t : Fin 2, ∑ r : Fin 256, f (rowIn t r) = ∑ h : Fin 512, f h := by
  rw [← Finset.sum_product']
  refine Finset.sum_equiv (finProdFinEquiv (m := 2) (n := 256)) (fun _ => by simp) fun i _ => ?_
  refine congrArg f (Fin.ext ?_)
  show 256 * (i.1 : ℕ) + (i.2 : ℕ) = (i.2 : ℕ) + 256 * (i.1 : ℕ)
  rw [add_comm]

/-- An image's count is the sum of its halves' counts. -/
theorem sum_hits (d : Data X) (n : Fin 4) (c : Fin 19) : ∑ t : Fin 2, hits d n t c = Cert.Loss.count d n c :=
  sum_halves fun h => ∑ w : Fin 1024, if d.cls n h w = c then 1 else 0

/-- An image's sum of squares over a class is the sum of its halves'. -/
theorem sum_masses (d : Data X) (n : Fin 4) (c : Fin 19) : ∑ t : Fin 2, mass d n t c = Cert.Loss.mass d n c :=
  sum_halves fun h => ∑ w : Fin 1024, if d.cls n h w = c then Cert.Loss.sq d n h w else 0

/-- A block that holds half `t` of image `n`, as real numbers. -/
def blockOf (d : Data X) (n : Fin 4) (t : Fin 2) (x : Vec Ideal S1x19x256x1024 .f32)
    (hx : ∀ c r w, x (ix4 0 c r w) = X (ix4 n c (rowIn t r) w)) : Block x where
  q c r w := d.p n c (rowIn t r) w
  cls r w := d.cls n (rowIn t r) w
  eq_q c r w := (hx c r w).trans (d.eq_p _ _ _ _)
  lt_top c r w h := d.lt_top _ _ _ _ h

/-- The block's whole rectangle is the block. -/
theorem canon_row (v : Vec Ideal S1x1x1x19 .f32) : View.canon [⟨r0_608, v⟩] = v := by
  exact View.canon_unit_zero (by decide) _ _

/-- The counts that one grid point leaves. -/
theorem out_cnt_val (d : Data X) (n : Fin 4) (t : Fin 2) (x : Vec Ideal S1x19x256x1024 .f32)
    (hx : ∀ c r w, x (ix4 0 c r w) = X (ix4 n c (rowIn t r) w)) (c : Fin 19) :
    out0_1 x (ix4 0 0 0 c) = ((hits d n t c : ℝ) : EReal) := by
  rw [out_cnt, canon_row]
  exact stacked_apply _ _ (fun c => ((hits d n t c : ℝ) : EReal)) (fun c _ => cnt_val (blockOf d n t x hx) c)
    (cntLast_val (blockOf d n t x hx)) c

/-- The sums of squares that one grid point leaves. -/
theorem out_val_val (d : Data X) (n : Fin 4) (t : Fin 2) (x : Vec Ideal S1x19x256x1024 .f32)
    (hx : ∀ c r w, x (ix4 0 c r w) = X (ix4 n c (rowIn t r) w)) (c : Fin 19) :
    out0_2 x (ix4 0 0 0 c) = ((mass d n t c : ℝ) : EReal) := by
  rw [out_val, canon_row]
  exact stacked_apply _ _ (fun c => ((mass d n t c : ℝ) : EReal)) (fun c _ => val_val (blockOf d n t x hx) c)
    (valLast_val (blockOf d n t x hx)) c

/-- Where the windows' blocks stand at a grid point. -/
theorem idx : ∀ t : Fin grid0.N, win0_0.index t 0 < 4 ∧ win0_0.index t 1 = 0 ∧ win0_0.index t 2 < 2 ∧ win0_0.index t 3 = 0
    ∧ win0_1.index t 0 = win0_0.index t 0 ∧ win0_1.index t 1 = win0_0.index t 2 ∧ win0_1.index t 2 = 0 ∧ win0_1.index t 3 = 0
    ∧ win0_2.index t 0 = win0_0.index t 0 ∧ win0_2.index t 1 = win0_0.index t 2 ∧ win0_2.index t 2 = 0 ∧ win0_2.index t 3 = 0 := by
  decide +kernel

variable (V : (c : Dev nD) → (b : Ref sig .tc) → Buf (Elt Ideal) ((c : Thread nD τ).loc b))

/-- The input block at a grid point is the point's half of its image. -/
theorem block_read (c : Dev nD) (t : Fin grid0.N) (k : Fin 19) (r : Fin 256) (w : Fin 1024) :
    iblk0 V c 0 t (ix4 0 k r w)
      = V c main_arg0 (ix4 ⟨win0_0.index t 0, (idx t).1⟩ k (rowIn ⟨win0_0.index t 2, (idx t).2.2.1⟩ r) w) := by
  obtain ⟨h0, h1, h2, h3, -⟩ := idx t
  blk_ext [iblk0, rowIn, h1, h3]

/-- An index of a row of nineteen is its last coordinate. -/
theorem unit_row (y : S1x1x1x19.Idx) : y = ix4 0 0 0 (y 3) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- The array of counts after the first region. -/
theorem arr_cnt (c : Dev nD) (d : Data (V c main_arg0)) :
    (dat0 V c).arrAt 1 cfg0.N = fun i : S4x2x1x19.Idx => ((hits d (i 0) (i 1) (i 3) : ℝ) : EReal) := by
  refine (dat0 V c).arrAt_eq_of_covers 1 _ (by decide +kernel) fun t hf y => ?_
  blk_simp
  rw [after0_1]
  obtain ⟨k, rfl⟩ : ∃ k : Fin 19, y = (ix4 0 0 0 k : S1x1x1x19.Idx) := ⟨y 3, unit_row y⟩
  refine (out_cnt_val d ⟨win0_0.index t 0, (idx t).1⟩ ⟨win0_0.index t 2, (idx t).2.2.1⟩ _ (block_read V c t) k).trans ?_
  obtain ⟨-, -, -, -, i10, i11, i12, i13, i20, i21, i22, i23⟩ := idx t
  have e0 : (win0_1.blk t).view.emb (ix4 0 0 0 k : S1x1x1x19.Idx) 0 = (⟨win0_0.index t 0, (idx t).1⟩ : Fin 4) := by
    apply Fin.ext; blk_simp [i10]; rfl
  have e1 : (win0_1.blk t).view.emb (ix4 0 0 0 k : S1x1x1x19.Idx) 1 = (⟨win0_0.index t 2, (idx t).2.2.1⟩ : Fin 2) := by
    apply Fin.ext; blk_simp [i11]; rfl
  have e3 : (win0_1.blk t).view.emb (ix4 0 0 0 k : S1x1x1x19.Idx) 3 = k := by
    apply Fin.ext; blk_simp [i13]
  rw [e0, e1, e3]

/-- The array of sums of squares after the first region. -/
theorem arr_val (c : Dev nD) (d : Data (V c main_arg0)) :
    (dat0 V c).arrAt 2 cfg0.N = fun i : S4x2x1x19.Idx => ((mass d (i 0) (i 1) (i 3) : ℝ) : EReal) := by
  refine (dat0 V c).arrAt_eq_of_covers 2 _ (by decide +kernel) fun t hf y => ?_
  blk_simp
  rw [after0_2]
  obtain ⟨k, rfl⟩ : ∃ k : Fin 19, y = (ix4 0 0 0 k : S1x1x1x19.Idx) := ⟨y 3, unit_row y⟩
  refine (out_val_val d ⟨win0_0.index t 0, (idx t).1⟩ ⟨win0_0.index t 2, (idx t).2.2.1⟩ _ (block_read V c t) k).trans ?_
  obtain ⟨-, -, -, -, i10, i11, i12, i13, i20, i21, i22, i23⟩ := idx t
  have e0 : (win0_2.blk t).view.emb (ix4 0 0 0 k : S1x1x1x19.Idx) 0 = (⟨win0_0.index t 0, (idx t).1⟩ : Fin 4) := by
    apply Fin.ext; blk_simp [i20]; rfl
  have e1 : (win0_2.blk t).view.emb (ix4 0 0 0 k : S1x1x1x19.Idx) 1 = (⟨win0_0.index t 2, (idx t).2.2.1⟩ : Fin 2) := by
    apply Fin.ext; blk_simp [i21]; rfl
  have e3 : (win0_2.blk t).view.emb (ix4 0 0 0 k : S1x1x1x19.Idx) 3 = k := by
    apply Fin.ext; blk_simp [i23]
  rw [e0, e1, e3]

end Cert.Arrays

end
-- ==== Proof.Epi.lean ====
/- The second region's value, as a real number: the weighted sum of squares times the named constant. -/
module

public import proofs.«01_k».proof.Proof.Gen.KernelIdeal.Frame.Region1
public import proofs.«01_k».proof.Proof.Weight

@[expose] public section

set_option maxRecDepth 16384

noncomputable section

namespace Cert.Epi

open Cert.KernelIdeal Cert.KernelIdeal.Gen Idealize.ShloMosaic Idealize.ShloMosaic.TcCoe Idealize.SL.Sem
open Cert.Weight

/-- One term of the second region: a sum of squares over the class's denominator. -/
def cell (m h t : EReal) : EReal :=
  Ideal.div m (max ((if 0 < h then Ideal.exp (Ideal.ofBits .f32 0x3E4CCCCD#32 * Ideal.log (max h 1)) else 0)
    * Ideal.exp (Ideal.ofBits .f32 0x3F4CCCCD#32 * Ideal.log t)) 1)

/-- The second region's one value, read. -/
theorem pay_apply (v0 v3 : Vec Ideal S4x2x1x19 .f32) :
    k1_pay1 v0 v3 (ix2 0 0) = (∑ n : Fin 4, ∑ c : Fin 19, cell (∑ t : Fin 2, v3 (ix4 n t 0 c)) (∑ t : Fin 2, v0 (ix4 n t 0 c))
      (∑ c : Fin 19, ∑ t : Fin 2, v0 (ix4 n t 0 c))) * ((-1 / 76 : ℝ) : EReal) := by
  rw [← IdealRules.named_const.ideal_named_scalar (κ := Cert.KernelIdeal.κ) (name := "scale") (φ := .f32) 0xBC579436#32 _ rfl]
  unfold cell
  pointwise [k1_pay1]

/-- A power of a positive real as the exponential of a multiple of its logarithm. -/
theorem exp_log (e r : ℝ) (hr : 0 < r) : Ideal.exp ((e : EReal) * Ideal.log (r : EReal)) = ((Real.rpow r e : ℝ) : EReal) := by
  rw [Ideal.log_coe, if_neg (not_le.2 hr), ← EReal.coe_mul, Ideal.exp_coe]
  congr 1
  rw [mul_comm]
  exact (Real.rpow_def_of_pos hr e).symm

/-- One term, as a real number, for a count that is zero or at least one. -/
theorem cell_val (m h t : ℝ) (hh : h = 0 ∨ 1 ≤ h) (ht : 0 < t) :
    cell (m : EReal) (h : EReal) (t : EReal) = ((m * weight h t : ℝ) : EReal) := by
  unfold cell
  rw [alpha_word, beta_word, exp_log _ _ ht]
  have e : (if (0 : EReal) < (h : EReal) then Ideal.exp ((alpha : EReal) * Ideal.log (max (h : EReal) 1)) else 0)
      = ((Real.rpow h alpha : ℝ) : EReal) := by
    rcases hh with rfl | hh
    · rw [if_neg (by simp)]
      rw [show Real.rpow 0 alpha = 0 from Real.zero_rpow alpha_ne]; rfl
    · have hp : 0 < h := by linarith
      rw [if_pos (by exact_mod_cast hp), max_eq_left (by exact_mod_cast hh), exp_log _ _ hp]
  rw [e, ← EReal.coe_mul, ← EReal.coe_one, ← coe_max, Ideal.div_coe (one_le_den _).ne', ← EReal.coe_mul]
  rfl

end Cert.Epi

end
-- ==== Proof.KernelVal.lean ====
/- The idealised kernel's run: it ends with its argument unchanged and its result equal to one real number. -/
module

public import proofs.«01_k».proof.Proof.Gen.KernelIdeal.Frame
public import proofs.«01_k».proof.Proof.Arrays
public import proofs.«01_k».proof.Proof.Epi

@[expose] public section

set_option maxRecDepth 16384

noncomputable section

namespace Cert.KernelVal

open Cert.KernelIdeal Cert.KernelIdeal.Gen Idealize.ShloMosaic Idealize.ShloMosaic.TcCoe Idealize.SL.Sem
open Cert.Arrays Cert.Epi Cert.Weight Cert.Pixels
open Idealize.ShloMosaic.Pipeline (Dat)

variable (V : (c : Dev nD) → (b : Ref sig .tc) → Buf (Elt Ideal) ((c : Thread nD τ).loc b))

/-- The second region's windows are its whole arrays. -/
theorem idx : ∀ t : Fin grid1.N, (∀ a, win1_0.index t a = 0) ∧ (∀ a, win1_1.index t a = 0) := by decide +kernel

/-- The second region's first input block is the whole array of counts. -/
theorem block_cnt (c : Dev nD) (t : Fin cfg1.N) : iblk1 V c 0 t = V c main_v0_0 := by
  have h := (idx t).1
  funext y
  blk_ext [iblk1, h]

/-- The second region's second input block is the whole array of sums of squares. -/
theorem block_val (c : Dev nD) (t : Fin cfg1.N) : iblk1 V c 1 t = V c main_v0_1 := by
  have h := (idx t).2
  funext y
  blk_ext [iblk1, h]

/-- What the second kernel leaves in its result block. -/
theorem out_pay (x0 x1 : Vec Ideal S4x2x1x19 .f32) : out1_2 x0 x1 = k1_pay1 x0 x1 := by
  unfold out1_2
  rw [View.canon_unit_zero (by decide), View.ld_unit_zero (by decide), View.ld_unit_zero (by decide)]

/-- The second region's result array. -/
theorem arr_out (c : Dev nD) :
    (dat1 V c).arrAt 2 cfg1.N = fun _ : S1x1.Idx => k1_pay1 (V c main_v0_0) (V c main_v0_1) (ix2 0 0) := by
  refine (dat1 V c).arrAt_eq_of_covers 2 _ (by decide +kernel) fun t hf y => ?_
  blk_simp
  rw [after1_2, block_cnt, block_val]
  refine (congrFun (out_pay _ _) y).trans (congrArg _ ?_)
  funext a
  match a with
  | ⟨0, _⟩ => exact Subsingleton.elim (α := Fin 1) _ _
  | ⟨1, _⟩ => exact Subsingleton.elim (α := Fin 1) _ _

/-- The second kernel's value at the arrays of counts and of sums of squares. -/
theorem pay_loss {X : Box.Idx → EReal} (d : Data X) :
    k1_pay1 (F := Ideal) (fun i : S4x2x1x19.Idx => ((hits d (i 0) (i 1) (i 3) : ℝ) : EReal))
      (fun i : S4x2x1x19.Idx => ((mass d (i 0) (i 1) (i 3) : ℝ) : EReal)) (ix2 0 0) = ((Cert.Loss.loss d : ℝ) : EReal) := by
  rw [pay_apply]
  show (∑ n : Fin 4, ∑ k : Fin 19, cell (∑ t : Fin 2, ((mass d n t k : ℝ) : EReal)) (∑ t : Fin 2, ((hits d n t k : ℝ) : EReal))
      (∑ k : Fin 19, ∑ t : Fin 2, ((hits d n t k : ℝ) : EReal))) * ((-1 / 76 : ℝ) : EReal) = _
  simp only [← coe_sum, sum_hits, sum_masses, Cert.Loss.sum_count]
  have e : ∀ n k, cell ((Cert.Loss.mass d n k : ℝ) : EReal) ((Cert.Loss.count d n k : ℝ) : EReal) ((524288 : ℝ) : EReal)
      = ((Cert.Loss.mass d n k * weight (Cert.Loss.count d n k) 524288 : ℝ) : EReal) :=
    fun n k => cell_val _ _ _ (Cert.Loss.count_cases d n k) (by norm_num)
  simp only [e, ← coe_sum]
  rw [← EReal.coe_mul]
  rfl

section Run

variable (m : (ℓ : Loc nD τ sig) → Buf (Elt Ideal) ℓ) (ρ : Dev nD → PrngReg)

/-- The result buffer at the end of the run. -/
theorem result (c : Dev nD) (d : Data (m ((c : Thread nD τ).loc main_arg0))) :
    W3 m ρ c (Proc.devRef .tc main_v2) = fun _ : S_.Idx => ((Cert.Loss.loss d : ℝ) : EReal) := by
  have e0 : V1 m ρ c main_v0_0 = fun i : S4x2x1x19.Idx => ((hits d (i 0) (i 1) (i 3) : ℝ) : EReal) :=
    (W1_arr m ρ c 1).trans (arr_cnt (V0 m ρ) c d)
  have e1 : V1 m ρ c main_v0_1 = fun i : S4x2x1x19.Idx => ((mass d (i 0) (i 1) (i 3) : ℝ) : EReal) :=
    (W1_arr m ρ c 2).trans (arr_val (V0 m ρ) c d)
  have e2 : W2 m ρ c (Proc.devRef .tc main_v1) = fun _ : S1x1.Idx => ((Cert.Loss.loss d : ℝ) : EReal) := by
    refine (W2_arr m ρ c 2).trans ((arr_out (V1 m ρ) c).trans ?_)
    rw [e0, e1]
    exact funext fun _ => pay_loss d
  have e3 : W3 m ρ c (Proc.devRef .tc main_v2) = shapeCast S_ (W2 m ρ c (Proc.devRef .tc main_v1)) shapeCasts_S1x1_S_ := by
    chain_rfl
  rw [e3, e2]
  rfl

end Run

end Cert.KernelVal

end
-- ==== Proof.KernelRun.lean ====
/- The idealised kernel's run with its result: the launch's set-up follows the generated frame, whose postcondition says
   nothing of the result. -/
module

public import proofs.«01_k».proof.Proof.KernelVal

@[expose] public section

set_option maxRecDepth 16384

noncomputable section

namespace Cert.KernelRun

open Cert.KernelIdeal Cert.KernelIdeal.Gen Cert.Pixels
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From a memory whose argument has unique maxima on every device, every run of the idealised kernel ends with the result
    equal to the loss and the argument unchanged. -/
theorem run (d : (c : Dev nD) → Data (m ((c : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v2) = (fun _ : S_.Idx => ((Cert.Loss.loss (d c) : ℝ) : EReal))
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v2 (by decide))).trans (Cert.KernelVal.result m ρ c (d c)),
        (h c _ (mem_uc main_arg0 (by decide))).trans (W3_main_arg0 m ρ c)⟩)

end Cert.KernelRun

end
-- ==== Proof.lean ====
/- The proof of the certificate: the frames of the kernel and of the reference, the named constant's statement, and the
   value claim, whose two halves are the kernel's value and the reference's value, each equal to one real number. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unique_max
public import proofs.«01_k».proof.Proof.RefRun
public import proofs.«01_k».proof.Proof.RefRead
public import proofs.«01_k».proof.Proof.RefVal
public import proofs.«01_k».proof.Proof.KernelRun
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its argument unchanged and every counter at zero: it has no counters. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩) (Cert.RefRun.run m g)

/-- From a memory that meets the precondition, the kernel and the reference end with equal results: each is the loss, one real
    number computed from the probabilities, for which the precondition gives the reals and the class of every pixel. -/
theorem value : Cert.algebraic_KernelIdeal_ReferenceIdeal_pre_unique_max (hKernelIdeal := Cert.KernelIdeal.Gen.facts)
    (hReferenceIdeal := Cert.ReferenceIdeal.Gen.facts) (hPre_unique_max := Cert.Pre_unique_max.Gen.facts) := by
  intro m g m' g' hpre hargs
  have d : (c : Dev Cert.KernelIdeal.nD) →
      Cert.Pixels.Data (m ((c.tc : Thread Cert.KernelIdeal.nD Cert.KernelIdeal.τ).loc Cert.KernelIdeal.main_arg0)) :=
    fun c => Classical.choice (Cert.Pixels.data_of_pre _ (hpre c))
  refine ⟨fun c => fun _ => ((Cert.Loss.loss (d c) : ℝ) : EReal), Cert.KernelRun.run m g d, ?_⟩
  refine (θ_run _ _ _).mono (fun r h c => ⟨(h c).1.trans ?_, (h c).2⟩) (Cert.RefRun.run m' g')
  refine (Cert.RefRead.val_main_v56_eq m' c).trans ?_
  rw [hargs c]
  exact Cert.RefVal.v56_val (d c)

/-- Everything the certificate claims. -/
theorem claim : Cert.Claim :=
  ⟨Cert.Kernel.Gen.facts, Cert.KernelIdeal.Gen.facts, Cert.ReferenceIdeal.Gen.facts, Cert.Pre_unique_max.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    IdealRules.named_const.statement Cert.KernelIdeal.κ "scale" .f32 0xBC579436#32 ((-1 / 76 : ℝ) : EReal) rfl,
    value⟩

end Cert.Proof

end
